-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x1024 : Shape := ⟨2, ![1024, 1024]⟩
abbrev S1024x128 : Shape := ⟨2, ![1024, 128]⟩
abbrev S8x1024x128 : Shape := ⟨3, ![8, 1024, 128]⟩
abbrev S8x128x128 : Shape := ⟨3, ![8, 128, 128]⟩
abbrev S9 : Shape := ⟨1, ![9]⟩
abbrev S8 : Shape := ⟨1, ![8]⟩
abbrev S1 : Shape := ⟨1, ![1]⟩
abbrev S_ : Shape := ⟨0, ![]⟩
abbrev S1x1024x128 : Shape := ⟨3, ![1, 1024, 128]⟩
abbrev S128x128 : Shape := ⟨2, ![128, 128]⟩
abbrev S1x128x128 : Shape := ⟨3, ![1, 128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024x128, .f32⟩
  | .local _ .vmem, ⟨0, _⟩ => ⟨S1024x128, .f32⟩
  | .local _ .vmem, ⟨1, _⟩ => ⟨S128x1024, .f32⟩
  | .local _ .vmem, ⟨2, _⟩ => ⟨S8x1024x128, .f32⟩
  | .local _ .vmem, ⟨3, _⟩ => ⟨S8x128x128, .bf16⟩
  | .local _ .vmem, ⟨4, _⟩ => ⟨S8x128x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c1_i32_1 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.addi v2 c1_i32_1
  let c8_i32_2 : BitVec 32 := 8#32
  let v6 : BitVec 32 := Scalar.remsi v5 c8_i32_2
  ![v6.toNat]
def k0_off2 (d0 : Dev nD) (c1_i32_1 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.addi v2 c1_i32_1
  let c8_i32_2 : BitVec 32 := 8#32
  let v6 : BitVec 32 := Scalar.remsi v5 c8_i32_2
  let c0_i32 : BitVec 32 := 0#32
  let c0_i32_3 : BitVec 32 := 0#32
  ![v6.toNat, 0, 0]
def k0_off3 (d0 : Dev nD) (c1_i32_1 : BitVec 32) : Fin 2 → Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.addi v2 c1_i32_1
  let c8_i32_2 : BitVec 32 := 8#32
  let v6 : BitVec 32 := Scalar.remsi v5 c8_i32_2
  let c128_i32 : BitVec 32 := 128#32
  let v7 : BitVec 32 := Scalar.muli v6 c128_i32
  ![0, v7.toNat]
def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v70 : BitVec 32 := Scalar.addi v2 c1_i32_41
  let c8_i32_42 : BitVec 32 := 8#32
  let v71 : BitVec 32 := Scalar.remsi v70 c8_i32_42
  let c1_i32_44 : BitVec 32 := 1#32
  let v72 : BitVec 32 := Scalar.muli v71 c1_i32_44
  let v73 : BitVec 32 := Scalar.addi c0_i32_45 v72
  v73.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v74 : BitVec 32 := Scalar.addi v2 c2_i32_46
  let c8_i32_47 : BitVec 32 := 8#32
  let v75 : BitVec 32 := Scalar.remsi v74 c8_i32_47
  let c1_i32_49 : BitVec 32 := 1#32
  let v76 : BitVec 32 := Scalar.muli v75 c1_i32_49
  let v77 : BitVec 32 := Scalar.addi c0_i32_50 v76
  v77.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_51 : BitVec 32 := 3#32
  let v78 : BitVec 32 := Scalar.addi v2 c3_i32_51
  let c8_i32_52 : BitVec 32 := 8#32
  let v79 : BitVec 32 := Scalar.remsi v78 c8_i32_52
  let c1_i32_54 : BitVec 32 := 1#32
  let v80 : BitVec 32 := Scalar.muli v79 c1_i32_54
  let v81 : BitVec 32 := Scalar.addi c0_i32_55 v80
  v81.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v82 : BitVec 32 := Scalar.addi v2 c4_i32_56
  let c8_i32_57 : BitVec 32 := 8#32
  let v83 : BitVec 32 := Scalar.remsi v82 c8_i32_57
  let c1_i32_59 : BitVec 32 := 1#32
  let v84 : BitVec 32 := Scalar.muli v83 c1_i32_59
  let v85 : BitVec 32 := Scalar.addi c0_i32_60 v84
  v85.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_61 : BitVec 32 := 5#32
  let v86 : BitVec 32 := Scalar.addi v2 c5_i32_61
  let c8_i32_62 : BitVec 32 := 8#32
  let v87 : BitVec 32 := Scalar.remsi v86 c8_i32_62
  let c1_i32_64 : BitVec 32 := 1#32
  let v88 : BitVec 32 := Scalar.muli v87 c1_i32_64
  let v89 : BitVec 32 := Scalar.addi c0_i32_65 v88
  v89.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_66 : BitVec 32 := 6#32
  let v90 : BitVec 32 := Scalar.addi v2 c6_i32_66
  let c8_i32_67 : BitVec 32 := 8#32
  let v91 : BitVec 32 := Scalar.remsi v90 c8_i32_67
  let c1_i32_69 : BitVec 32 := 1#32
  let v92 : BitVec 32 := Scalar.muli v91 c1_i32_69
  let v93 : BitVec 32 := Scalar.addi c0_i32_70 v92
  v93.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_71 : BitVec 32 := 7#32
  let v94 : BitVec 32 := Scalar.addi v2 c7_i32_71
  let c8_i32_72 : BitVec 32 := 8#32
  let v95 : BitVec 32 := Scalar.remsi v94 c8_i32_72
  let c1_i32_74 : BitVec 32 := 1#32
  let v96 : BitVec 32 := Scalar.muli v95 c1_i32_74
  let v97 : BitVec 32 := Scalar.addi c0_i32_75 v96
  v97.toNat
def k0_off4 (d0 : Dev nD) (c1_i32_1 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.addi v2 c1_i32_1
  let c8_i32_2 : BitVec 32 := 8#32
  let v6 : BitVec 32 := Scalar.remsi v5 c8_i32_2
  let v107 : Index := Scalar.indexCast v6
  let c0_81 : Index := 0#32
  let c0_82 : Index := 0#32
  ![v107.toNat, 0, 0]
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_90 : BitVec 32 := 0#32
  let c0_i32_91 : BitVec 32 := 0#32
  ![v2.toNat, 0, 0]
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_88 : BitVec 32 := 1#32
  let v116 : BitVec 32 := Scalar.muli v6 c1_i32_88
  let v117 : BitVec 32 := Scalar.addi c0_i32_89 v116
  v117.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_5 : BitVec 32 := 8#32
  let v14 : BitVec 32 := Scalar.remsi v13 c8_i32_5
  let c1_i32_104 : BitVec 32 := 1#32
  let v140 : BitVec 32 := Scalar.muli v14 c1_i32_104
  let v141 : BitVec 32 := Scalar.addi c0_i32_105 v140
  v141.toNat
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v21 : BitVec 32 := Scalar.addi v2 c3_i32
  let c8_i32_10 : BitVec 32 := 8#32
  let v22 : BitVec 32 := Scalar.remsi v21 c8_i32_10
  let c1_i32_120 : BitVec 32 := 1#32
  let v164 : BitVec 32 := Scalar.muli v22 c1_i32_120
  let v165 : BitVec 32 := Scalar.addi c0_i32_121 v164
  v165.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v29 : BitVec 32 := Scalar.addi v2 c4_i32
  let c8_i32_15 : BitVec 32 := 8#32
  let v30 : BitVec 32 := Scalar.remsi v29 c8_i32_15
  let c1_i32_136 : BitVec 32 := 1#32
  let v188 : BitVec 32 := Scalar.muli v30 c1_i32_136
  let v189 : BitVec 32 := Scalar.addi c0_i32_137 v188
  v189.toNat
def k0_dev12 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v37 : BitVec 32 := Scalar.addi v2 c5_i32
  let c8_i32_20 : BitVec 32 := 8#32
  let v38 : BitVec 32 := Scalar.remsi v37 c8_i32_20
  let c1_i32_152 : BitVec 32 := 1#32
  let v212 : BitVec 32 := Scalar.muli v38 c1_i32_152
  let v213 : BitVec 32 := Scalar.addi c0_i32_153 v212
  v213.toNat
def k0_dev13 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v45 : BitVec 32 := Scalar.addi v2 c6_i32
  let c8_i32_25 : BitVec 32 := 8#32
  let v46 : BitVec 32 := Scalar.remsi v45 c8_i32_25
  let c1_i32_168 : BitVec 32 := 1#32
  let v236 : BitVec 32 := Scalar.muli v46 c1_i32_168
  let v237 : BitVec 32 := Scalar.addi c0_i32_169 v236
  v237.toNat
def k0_dev14 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v53 : BitVec 32 := Scalar.addi v2 c7_i32
  let c8_i32_30 : BitVec 32 := 8#32
  let v54 : BitVec 32 := Scalar.remsi v53 c8_i32_30
  let c1_i32_184 : BitVec 32 := 1#32
  let v260 : BitVec 32 := Scalar.muli v54 c1_i32_184
  let v261 : BitVec 32 := Scalar.addi c0_i32_185 v260
  v261.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_196 : BitVec 32 := 128#32
  let v280 : BitVec 32 := Scalar.muli v2 c128_i32_196
  let v281 : Index := Scalar.indexCast v280
  let c0_197 : Index := 0#32
  ![v281.toNat, 0]
def k0_off8 (d0 : Dev nD) (c1_i32_199 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_198 : BitVec 32 := 8#32
  let v283 : BitVec 32 := Scalar.addi v2 c8_i32_198
  let v284 : BitVec 32 := Scalar.subi v283 c1_i32_199
  let c8_i32_200 : BitVec 32 := 8#32
  let v285 : BitVec 32 := Scalar.remsi v284 c8_i32_200
  ![v285.toNat]
def k0_off9 (d0 : Dev nD) (c1_i32_199 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_198 : BitVec 32 := 8#32
  let v283 : BitVec 32 := Scalar.addi v2 c8_i32_198
  let v284 : BitVec 32 := Scalar.subi v283 c1_i32_199
  let c8_i32_200 : BitVec 32 := 8#32
  let v285 : BitVec 32 := Scalar.remsi v284 c8_i32_200
  let c0_i32_205 : BitVec 32 := 0#32
  let c0_i32_206 : BitVec 32 := 0#32
  ![v285.toNat, 0, 0]
def k0_off10 (d0 : Dev nD) (c1_i32_199 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_198 : BitVec 32 := 8#32
  let v283 : BitVec 32 := Scalar.addi v2 c8_i32_198
  let v284 : BitVec 32 := Scalar.subi v283 c1_i32_199
  let c8_i32_200 : BitVec 32 := 8#32
  let v285 : BitVec 32 := Scalar.remsi v284 c8_i32_200
  let v294 : Index := Scalar.indexCast v285
  let c0_209 : Index := 0#32
  let c0_210 : Index := 0#32
  ![v294.toNat, 0, 0]
def k0_off11 (d0 : Dev nD) (c1_i32_199 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_198 : BitVec 32 := 8#32
  let v283 : BitVec 32 := Scalar.addi v2 c8_i32_198
  let v284 : BitVec 32 := Scalar.subi v283 c1_i32_199
  let c8_i32_200 : BitVec 32 := 8#32
  let v285 : BitVec 32 := Scalar.remsi v284 c8_i32_200
  let c128_i32_211 : BitVec 32 := 128#32
  let v298 : BitVec 32 := Scalar.muli v285 c128_i32_211
  let v299 : Index := Scalar.indexCast v298
  let c0_212 : Index := 0#32
  ![v299.toNat, 0]
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Common.lean ====
/- The kernel's body as five short passes over lists of blocks: starting the copies in, signalling the
   peers, computing and sending a block to each peer, placing the blocks received, and waiting for the
   sends. `body_loop` says that the printed straight-line body is this program. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal

open Cert.KernelIdeal.Gen
open Idealize.ShloMosaic
open Idealize.ShloMosaic.TcCoe
open Idealize.SL Idealize.SL.Sem

variable {F : FTy → Type} [FloatOps F]

/-- A program of this kernel's body. -/
abbrev Body (F : FTy → Type) [FloatOps F] (α : Type) : Type 1 := Prog (TpuEff nD τ sig (Elt F) Λ₀ .tc) α

/-- Run `f` on each element of a list, in order. -/
def forL {A : Type} (f : A → Body F PUnit) : List A → Body F PUnit
  | [] => pure ⟨⟩
  | a :: l => f a >>= fun _ => forL f l

/-- The word the printed chains take at the `r`-th step of a pass: `1 + r`. -/
abbrev wd (n : ℕ) : BitVec 32 := BitVec.ofNat 32 (1 + n)

/-! ## The memrefs -/

/-- The activations' rows on this device. -/
abbrev xM : Memref sig .tc .hbm S128x1024 .f32 := Memref.whole main_arg0
/-- The weights, whole on each device. -/
abbrev wM : Memref sig .tc .hbm S1024x1024 .f32 := Memref.whole main_arg1
/-- The result, staged. -/
abbrev oM : Memref sig .tc .vmem S1024x128 .f32 := Memref.whole cc0_stg0_0
/-- The rows copied in. -/
abbrev xvM : Memref sig .tc .vmem S128x1024 .f32 := Memref.whole cc0_scratch0
/-- The weights copied in, a slab per column block. -/
abbrev wvM : Memref sig .tc .vmem S8x1024x128 .f32 := Memref.whole cc0_scratch1
/-- The blocks to send, a slab per send. -/
abbrev yM : Memref sig .tc .vmem S8x128x128 .bf16 := Memref.whole cc0_scratch2
/-- The blocks received, a slab per sender. -/
abbrev rM : Memref sig .tc .vmem S8x128x128 .bf16 := Memref.whole cc0_scratch3

/-- The rows are a whole buffer, -/
abbrev hx : (xM : Memref sig .tc .hbm S128x1024 .f32).IsWhole := Memref.isWhole_whole _
/-- so are the rows copied in, -/
abbrev hxv : (xvM : Memref sig .tc .vmem S128x1024 .f32).IsWhole := Memref.isWhole_whole _
/-- the blocks to send, -/
abbrev hy : (yM : Memref sig .tc .vmem S8x128x128 .bf16).IsWhole := Memref.isWhole_whole _
/-- and the blocks received. -/
abbrev hr : (rM : Memref sig .tc .vmem S8x128x128 .bf16).IsWhole := Memref.isWhole_whole _

/-- The `s`-th slab's place in an array of eight slabs lies inside it. -/
theorem slab_inb {n k : ℕ} (s : Fin 8) :
    ∀ a, (![s.val, 0, 0] : Fin 3 → ℕ) a + (![1, n, k] : Fin 3 → ℕ) a ≤ (![8, n, k] : Fin 3 → ℕ) a := by
  intro a; have := s.isLt; fin_cases a <;> simp <;> omega

/-- The slab of a send lies in the send buffer. -/
theorem y_inb (r : Fin 7) : ∀ a, (![1 + r.val, 0, 0] : Fin 3 → ℕ) a + S1x128x128.size a ≤ S8x128x128.size a := by
  intro a; have := r.isLt; fin_cases a <;> simp <;> omega
/-- The semaphore of a send lies in the array of them. -/
theorem ys_inb (r : Fin 7) : ∀ a, (![1 + r.val] : Fin 1 → ℕ) a + S1.size a ≤ S8.size a := by
  intro a; have := r.isLt; fin_cases a; simp; omega

/-- The slab of a send is whole words. -/
theorem y_words (r : Fin 7) : (Rect.unit (s := S8x128x128) ![1 + r.val, 0, 0] S1x128x128.size (y_inb r)).WholeWords (EltTy.packing .bf16) :=
  match r with
  | 0 => wordsbf16_S8x128x128_S1x128x128_1_0_0 | 1 => wordsbf16_S8x128x128_S1x128x128_2_0_0
  | 2 => wordsbf16_S8x128x128_S1x128x128_3_0_0 | 3 => wordsbf16_S8x128x128_S1x128x128_4_0_0
  | 4 => wordsbf16_S8x128x128_S1x128x128_5_0_0 | 5 => wordsbf16_S8x128x128_S1x128x128_6_0_0
  | 6 => wordsbf16_S8x128x128_S1x128x128_7_0_0
/-- The slab of a send is whole packed rows. -/
theorem y_packed (r : Fin 7) : (Rect.unit (s := S8x128x128) ![1 + r.val, 0, 0] S1x128x128.size (y_inb r)).PackedRows (EltTy.packing .bf16) :=
  match r with
  | 0 => packedbf16_S8x128x128_S1x128x128_1_0_0 | 1 => packedbf16_S8x128x128_S1x128x128_2_0_0
  | 2 => packedbf16_S8x128x128_S1x128x128_3_0_0 | 3 => packedbf16_S8x128x128_S1x128x128_4_0_0
  | 4 => packedbf16_S8x128x128_S1x128x128_5_0_0 | 5 => packedbf16_S8x128x128_S1x128x128_6_0_0
  | 6 => packedbf16_S8x128x128_S1x128x128_7_0_0

section Dev
variable (c : Dev nD)

/-- Where the copy of the `r`-th column block of the weights comes from, where it goes, and its semaphore. -/
abbrev wSrc (r : Fin 8) : Memref sig .tc .hbm S1024x128 .f32 :=
  wM.slice (Rect.unit (s := S1024x1024) (k0_off3 c (wd r)) S1024x128.size (k0_off3_inb c r)) (fun _ => rfl)
/-- The slab that a column block is copied into. -/
abbrev wDst (r : Fin 8) : Memref sig .tc .vmem S1024x128 .f32 :=
  (wvM.slice (Rect.unit (s := S8x1024x128) (k0_off2 c (wd r)) S1x1024x128.size (k0_off2_inb c r)) (fun _ => rfl)).squeeze S1024x128 squeezes_S1x1024x128_S1024x128
/-- The semaphore of that copy. -/
abbrev wSem (r : Fin 8) : DmaSem sig :=
  ((cc0_scratch4.slice (Rect.unit (s := S9) (k0_off1 c (wd r)) S1.size (k0_off1_inb c r))).squeeze S_ squeezes_S1_S_).sem
/-- The semaphore of the rows' copy. -/
abbrev xSem : DmaSem sig :=
  ((cc0_scratch4.slice (Rect.unit (s := S9) ![8] S1.size inb_S9_S1_8)).squeeze S_ squeezes_S1_S_).sem

/-- Where the `r`-th load of a column block of the weights reads. -/
abbrev wLd (r : Fin 8) : Rect S8x1024x128 :=
  Rect.unit (s := S8x1024x128) (k0_off4 c (wd r)) S1x1024x128.size (k0_off4_inb c r)

/-- The slab of the send buffer that the `r`-th block for a peer is written to, and its semaphore. -/
abbrev yRect (r : Fin 7) : Rect S8x128x128 :=
  Rect.unit (s := S8x128x128) ![1 + r.val, 0, 0] S1x128x128.size (y_inb r)
/-- The slab of the `r`-th send. -/
abbrev yMem (r : Fin 7) : Memref sig .tc .vmem S128x128 .bf16 :=
  (yM.slice (yRect r) (fun _ => rfl)).squeeze S128x128 squeezes_S1x128x128_S128x128
/-- The semaphore of the `r`-th send. -/
abbrev ySem (r : Fin 7) : DmaSem sig :=
  ((cc0_scratch5.slice (Rect.unit (s := S8) ![1 + r.val] S1.size (ys_inb r))).squeeze S_ squeezes_S1_S_).sem

/-- The slab of a peer's receive buffer that this device's blocks land in, and its semaphore. -/
abbrev tMem : Memref sig .tc .vmem S128x128 .bf16 :=
  (rM.slice (Rect.unit (s := S8x128x128) (k0_off6 c) S1x128x128.size (k0_off6_inb c)) (fun _ => rfl)).squeeze S128x128 squeezes_S1x128x128_S128x128
/-- The receive semaphore, on a peer, of this device's block. -/
abbrev tSem : DmaSem sig :=
  ((cc0_scratch6.slice (Rect.unit (s := S8) (k0_off5 c) S1.size (k0_off5_inb c))).squeeze S_ squeezes_S1_S_).sem

/-- The slab of its own receive buffer that the `r`-th wait is about, where it is loaded, and its semaphore. -/
abbrev vMem (r : Fin 7) : Memref sig .tc .vmem S128x128 .bf16 :=
  (rM.slice (Rect.unit (s := S8x128x128) (k0_off9 c (wd r)) S1x128x128.size (k0_off9_inb c r)) (fun _ => rfl)).squeeze S128x128 squeezes_S1x128x128_S128x128
/-- The slab of the `r`-th block to arrive, as a rectangle. -/
abbrev vLd (r : Fin 7) : Rect S8x128x128 :=
  Rect.unit (s := S8x128x128) (k0_off10 c (wd r)) S1x128x128.size (k0_off10_inb c r)
/-- The receive semaphore of the `r`-th block to arrive. -/
abbrev vSem (r : Fin 7) : DmaSem sig :=
  ((cc0_scratch6.slice (Rect.unit (s := S8) (k0_off8 c (wd r)) S1.size (k0_off8_inb c r))).squeeze S_ squeezes_S1_S_).sem

/-- The rows of the result that the device's own block and the `r`-th received block go to. -/
abbrev oOwn : Rect S1024x128 := Rect.unit (s := S1024x128) (k0_off7 c) S128x128.size (k0_off7_inb c)
/-- The rows of the result that the `r`-th block to arrive goes to. -/
abbrev oRow (r : Fin 7) : Rect S1024x128 :=
  Rect.unit (s := S1024x128) (k0_off11 c (wd r)) S128x128.size (k0_off11_inb c r)

/-- The peers signalled and the peers sent to. -/
abbrev sigDev : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
/-- The device of the `r`-th send. -/
abbrev sndDev : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩]

/-- The barrier semaphore. -/
abbrev barS : Sem sig := (SemArray.scalar (sig.barrier 0 rfl) : Sems sig S_).sem

/-! ## The payloads -/

/-- The product of the activations and a column block of the weights, taken in bf16 and summed in f32. -/
def dotOf (x : Vec F S128x1024 .f32) (w : FVec F S1024x128 .f32) : FVec F S128x128 .f32 :=
  matmul dot_S128x1024_S1024x128_S128x128_1_0_0_1_n_n none (truncf .bf16 x bitsLt_bf16_f32) (truncf .bf16 w bitsLt_bf16_f32)
    (constant S128x128 .f32 0x00000000#32)

/-- The block sent to a peer: that product, rounded to bf16. -/
def sendOf (x : Vec F S128x1024 .f32) (w : FVec F S1024x128 .f32) : FVec F S128x128 .bf16 :=
  truncf .bf16 (dotOf x w) bitsLt_bf16_f32

/-- A block received, as it is placed in the result: widened to f32. -/
def placeOf (y : FVec F S128x128 .bf16) : FVec F S128x128 .f32 := extf .f32 y bitsLt_bf16_f32

/-! ## The steps -/

/-- The activations start on their way in. -/
abbrev xIn : Body F PUnit :=
  Prog.lift (.enqueueDma xM (.here xvM) (.dma xSem) hx.wordExact hxv.wordExact ⟨Or.inl rfl, trivial⟩)
/-- So does the `r`-th column block of the weights. -/
abbrev wIn (r : Fin 8) : Body F PUnit :=
  Prog.lift (.enqueueDma (wSrc c r) (.here (wDst c r)) (.dma (wSem c r)) (View.wordExact_bits rfl) ((View.wordExact_bits rfl).reshape _ _) ⟨Or.inl rfl, trivial⟩)
/-- A unit goes to the `r`-th peer's barrier. -/
abbrev sig1 (r : Fin 7) : Body F PUnit := semSignalWord (sigDev c r) barS 1#32
/-- The activations are waited for and read. -/
abbrev xGet : Body F (Vec F S128x1024 .f32) := do
  Prog.lift (.waitDma2 xSem xM xvM hx.wordExact hxv.wordExact)
  Prog.lift (.load xvM (Rect.unit (s := S128x1024) ![0, 0] S128x1024.size inb_S128x1024_S128x1024_0_0).toLoadRect (View.loadsAt_vmem h_S128x1024))
/-- The `r`-th column block of the weights is waited for and read. -/
abbrev wGet (r : Fin 8) : Body F (Vec F S1x1024x128 .f32) := do
  Prog.lift (.waitDma2 (wSem c r) (wSrc c r) (wDst c r) (View.wordExact_bits rfl) ((View.wordExact_bits rfl).reshape _ _))
  Prog.lift (.load wvM (wLd c r).toLoadRect (View.loadsAt_vmem h_S1x1024x128))
/-- The `r`-th peer's block is computed and written to its slab of the send buffer. -/
abbrev yPut (x : Vec F S128x1024 .f32) (r : Fin 7) : Body F PUnit := do
  let w ← wGet c r.castSucc
  let _ ← Prog.lift (.load yM (yRect r).toLoadRect (View.loadsAt_vmem h_S1x128x128))
  Prog.lift (.store yM (yRect r)
    (shapeCast S1x128x128 (sendOf x (shapeCast S1024x128 w shapeCasts_S1x1024x128_S1024x128)) shapeCasts_S128x128_S1x128x128)
    Finset.univ (View.stores_vmem h_S1x128x128 (hy.storeExact_slice rfl _ (y_packed r)) (fun _ => rfl)) (.inl rfl))
/-- All seven peers' units are waited for. -/
abbrev barGet : Body F PUnit := semWaitWord barS 7#32
/-- The `r`-th peer's block is sent. -/
abbrev ySend (r : Fin 7) : Body F PUnit :=
  Prog.lift (.enqueueDma (yMem r) (.remote (Dev.tc (sndDev c r)) (tMem c) (.dma (ySem r))) (.dma (tSem c))
    ((hy.wordExact_slice rfl _ (y_words r)).reshape _ _) ((hr.wordExact_slice rfl _ (k0_off6_wordsbf16 c)).reshape _ _) ⟨⟨rfl, Or.inl rfl⟩, trivial⟩)
/-- The device's own block is computed and written to its rows of the result. -/
abbrev ownPut (x : Vec F S128x1024 .f32) : Body F PUnit := do
  let w ← wGet c 7
  let _ ← Prog.lift (.load oM (oOwn c).toLoadRect (View.loadsAt_vmem h_S128x128))
  Prog.lift (.store oM (oOwn c) (dotOf x (shapeCast S1024x128 w shapeCasts_S1x1024x128_S1024x128)) Finset.univ
    (View.stores_vmem_bits_univ h_S128x128 rfl) (.inl rfl))
/-- The `r`-th block to arrive is waited for and written to its rows of the result. -/
abbrev vPut (r : Fin 7) : Body F PUnit := do
  Prog.lift (.waitDma2 (vSem c r) (yMem r) (vMem c r) ((hy.wordExact_slice rfl _ (y_words r)).reshape _ _)
    ((hr.wordExact_slice rfl _ (k0_off9_wordsbf16 c r)).reshape _ _))
  let v : Vec F S1x128x128 .bf16 ← Prog.lift (.load rM (vLd c r).toLoadRect (View.loadsAt_vmem h_S1x128x128))
  let _ ← Prog.lift (.load oM (oRow c r).toLoadRect (View.loadsAt_vmem h_S128x128))
  Prog.lift (.store oM (oRow c r) (placeOf (shapeCast S128x128 v shapeCasts_S1x128x128_S128x128)) Finset.univ
    (View.stores_vmem_bits_univ h_S128x128 rfl) (.inl rfl))
/-- The `r`-th send is waited for. -/
abbrev yDone (r : Fin 7) : Body F PUnit :=
  Prog.lift (.waitDma2 (ySem r) (tMem c) (yMem r) ((hr.wordExact_slice rfl _ (k0_off6_wordsbf16 c)).reshape _ _)
    ((hy.wordExact_slice rfl _ (y_words r)).reshape _ _))

/-- The body on device `c`. -/
def prog : Body F PUnit := do
  xIn
  forL (wIn c) [0, 1, 2, 3, 4, 5, 6, 7]
  forL (sig1 c) [0, 1, 2, 3, 4, 5, 6]
  let x ← xGet
  yPut c x 0
  barGet
  ySend c 0
  forL (fun r => do yPut c x r; ySend c r) [1, 2, 3, 4, 5, 6]
  ownPut c x
  forL (vPut c) [0, 1, 2, 3, 4, 5, 6]
  forL (yDone c) [0, 1, 2, 3, 4, 5, 6]

end Dev

set_option maxRecDepth 65536 in
/-- The printed body, on the kernel's own memory, is that program on the device it runs on. -/
theorem body_loop : cc0_body (F := F) xM hx wM (Memref.isWhole_whole _) oM (Memref.isWhole_whole _) xvM hxv wvM (Memref.isWhole_whole _)
      yM hy rM hr cc0_scratch4 cc0_scratch5 cc0_scratch6
    = (Prog.lift .deviceId >>= fun c => prog c) := by chain_rfl

end Cert.KernelIdeal
-- ==== Proof.KernelIdeal.Mesh.lean ====
/- The mesh the kernel talks over: which device each step names, the slabs and cells in closed form,
   what every slab holds, and the schedule of the barrier, send and receive semaphores. -/
module

public import proofs.«01_k».proof.Proof.KernelIdeal.Common
public import Idealize.ShloMosaic.Lib.Rounds
public import Idealize.ShloMosaic.Lib.Transfers
public import Idealize.ShloMosaic.Lib.Memref
public import Idealize.ShloMosaic.Lib.Ring
public import Idealize.ShloMosaic.Lib.Pipeline.Kit

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's rounds, this protocol's rounds, and the counters of local copies -/

/-- The rounds' own ghost state, a payer named by its device. -/
abbrev UB : Type := URounds (GSem nD τ sig) (Dev nD)
/-- All ghost state: the pipeline's rounds, these rounds, the counters. -/
abbrev UU : Type := UR sig nD τ × (UB × Counters)

local notation "𝕄" => MT nD τ sig Unit (Elt F) ℕ UU ℕ

/-- Where the pipeline's rounds sit. -/
abbrev EP : Emb (UR sig nD τ) (MT nD τ sig Unit (Elt F) ℕ UU ℕ) := embL
/-- Where this protocol's rounds sit: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- Where the counters sit. -/
abbrev EC : UEmb Counters (MT nD τ sig Unit (Elt F) ℕ UU ℕ) := countersEmb

/-! ## Devices -/

/-- The device `r + 1` places after `c`, round the mesh. -/
def pe (c : Dev nD) (r : ℕ) : Dev nD := ⟨(c.val + r + 1) % 8, Nat.mod_lt _ (by decide)⟩
/-- The device `r + 1` places before `c`, round the mesh. -/
def sr (c : Dev nD) (r : ℕ) : Dev nD := ⟨(c.val + 7 - r) % 8, Nat.mod_lt _ (by decide)⟩

/-- The `r`-th device signalled is the one `r + 1` places on, -/
theorem sigDev_eq (c : Dev nD) (r : Fin 7) : sigDev c r = pe c r := by revert c r; decide +kernel
/-- and so is the device of the `r`-th send. -/
theorem sndDev_eq (c : Dev nD) (r : Fin 7) : sndDev c r = pe c r := by revert c r; decide +kernel

/-- The seven devices after `c` differ, -/
theorem pe_inj (c : Dev nD) : Function.Injective fun r : Fin 7 => pe c r := by revert c; decide
/-- none of them is `c`, -/
theorem pe_ne (c : Dev nD) (r : Fin 7) : pe c r ≠ c := by revert c r; decide
/-- and the eighth is `c` again. -/
theorem pe_last (c : Dev nD) : pe c 7 = c := by revert c; decide
/-- The seven devices before `c` differ, -/
theorem sr_inj (c : Dev nD) : Function.Injective fun r : Fin 7 => sr c r := by revert c; decide
/-- and none of them is `c`. -/
theorem sr_ne (c : Dev nD) (r : Fin 7) : sr c r ≠ c := by revert c r; decide

/-- The eight devices counted from the one after `c`. -/
def rot (c : Dev nD) : Fin 8 ≃ Dev nD :=
  Equiv.ofBijective (fun r : Fin 8 => pe c r) (by revert c; decide)

/-! ## Slabs and semaphores in closed form -/

/-- A column block lies in the weights; -/
theorem col_inb (j : Fin 8) : ∀ a, (![0, 128 * j.val] : Fin 2 → ℕ) a + S1024x128.size a ≤ S1024x1024.size a := by
  intro a; have := j.isLt; fin_cases a <;> simp <;> omega
/-- a row block in the result; -/
theorem row_inb (j : Fin 8) : ∀ a, (![128 * j.val, 0] : Fin 2 → ℕ) a + S128x128.size a ≤ S1024x128.size a := by
  intro a; have := j.isLt; fin_cases a <;> simp <;> omega
/-- a slab in the weights copied in; -/
theorem big_inb (j : Fin 8) : ∀ a, (![j.val, 0, 0] : Fin 3 → ℕ) a + S1x1024x128.size a ≤ S8x1024x128.size a := slab_inb j
/-- a slab in the buffers of blocks. -/
theorem sml_inb (j : Fin 8) : ∀ a, (![j.val, 0, 0] : Fin 3 → ℕ) a + S1x128x128.size a ≤ S8x128x128.size a := slab_inb j

/-- Column block `j` of the weights; row block `j` of the result; slab `j` of a buffer of eight. -/
abbrev colR (j : Fin 8) : Rect S1024x1024 := Rect.unit (s := S1024x1024) ![0, 128 * j.val] S1024x128.size (col_inb j)
/-- Row block `j` of the result. -/
abbrev rowR (j : Fin 8) : Rect S1024x128 := Rect.unit (s := S1024x128) ![128 * j.val, 0] S128x128.size (row_inb j)
/-- Slab `j` of the weights copied in. -/
abbrev bigR (j : Fin 8) : Rect S8x1024x128 := Rect.unit (s := S8x1024x128) ![j.val, 0, 0] S1x1024x128.size (big_inb j)
/-- Slab `j` of a buffer of blocks. -/
abbrev smlR (j : Fin 8) : Rect S8x128x128 := Rect.unit (s := S8x128x128) ![j.val, 0, 0] S1x128x128.size (sml_inb j)

/-- Column block `j` of the weights, in place. -/
abbrev wCol (j : Fin 8) : Memref sig .tc .hbm S1024x128 .f32 := wM.slice (colR j) (fun _ => rfl)
/-- Slab `j` of the weights copied in, as a matrix. -/
abbrev wSlab (j : Fin 8) : Memref sig .tc .vmem S1024x128 .f32 := (wvM.slice (bigR j) (fun _ => rfl)).squeeze S1024x128 squeezes_S1x1024x128_S1024x128
/-- Slab `j` of the send buffer, as a matrix. -/
abbrev ySlab (j : Fin 8) : Memref sig .tc .vmem S128x128 .bf16 := (yM.slice (smlR j) (fun _ => rfl)).squeeze S128x128 squeezes_S1x128x128_S128x128
/-- Slab `j` of the receive buffer, as a matrix. -/
abbrev rSlab (j : Fin 8) : Memref sig .tc .vmem S128x128 .bf16 := (rM.slice (smlR j) (fun _ => rfl)).squeeze S128x128 squeezes_S1x128x128_S128x128
/-- Row block `j` of the result, in place. -/
abbrev oBlk (j : Fin 8) : Memref sig .tc .vmem S128x128 .f32 := oM.slice (rowR j) (fun _ => rfl)

/-- The semaphore of the copy of column block `j`, of the send `j`, of the block from device `j`. -/
def inS (j : Fin 8) : DmaSem sig := (⟨1 + j.val, by have := j.isLt; show _ < 26; omega⟩ : Fin 26)
/-- The semaphore of the send `j`. -/
def sndS (j : Fin 8) : DmaSem sig := (⟨10 + j.val, by have := j.isLt; show _ < 26; omega⟩ : Fin 26)
/-- The semaphore of the block from device `j`. -/
def rcvS (j : Fin 8) : DmaSem sig := (⟨18 + j.val, by have := j.isLt; show _ < 26; omega⟩ : Fin 26)

section Closed
variable (c : Dev nD)

/-- Rectangles of one size at equal offsets are equal, -/
theorem rect_eq {s : Shape} {off off' size : Fin s.rank → ℕ} (h : off = off') (hi : ∀ a, off a + size a ≤ s.size a)
    (hi' : ∀ a, off' a + size a ≤ s.size a) : Rect.unit (s := s) off size hi = Rect.unit off' size hi' := by subst h; rfl

/-- and so are the slabs they cut, a unit axis dropped. -/
theorem squeeze_slice_eq {κ : Kind} {sp : Space} {s s' : Shape} {e : EltTy} (M : Memref sig κ sp s e) {off off' size : Fin s.rank → ℕ}
    (h : off = off') (hi : ∀ a, off a + size a ≤ s.size a) (hi' : ∀ a, off' a + size a ≤ s.size a)
    (hq : (⟨s.rank, size⟩ : Shape).Squeezes s') :
    (M.slice (Rect.unit (s := s) off size hi) (fun _ => rfl)).squeeze s' hq
      = (M.slice (Rect.unit (s := s) off' size hi') (fun _ => rfl)).squeeze s' hq := by subst h; rfl

/-- The `r`-th column block copied in is that of the `r`-th peer; -/
theorem wSrc_eq (r : Fin 8) : wSrc c r = wCol (pe c r) := Memref.slice_unit_congr wM (k0_off3_eq c r) _ _ _ _
/-- it goes to that peer's slab, -/
theorem wDst_eq (r : Fin 8) : wDst c r = wSlab (pe c r) := squeeze_slice_eq wvM (k0_off2_eq c r) _ _ _
/-- and is loaded from there. -/
theorem wLd_eq (r : Fin 8) : wLd c r = bigR (pe c r) := rect_eq (k0_off4_eq c r) _ _
/-- The `r`-th send is from slab `r + 1`, -/
theorem yMem_eq (r : Fin 7) : yMem r = ySlab r.succ :=
  squeeze_slice_eq yM (by rw [Fin.val_succ, Nat.add_comm]) _ _ _
/-- where its block is stored. -/
theorem yRect_eq (r : Fin 7) : yRect r = smlR r.succ := rect_eq (by rw [Fin.val_succ, Nat.add_comm]) _ _
/-- A device's block lands in the slab named after it. -/
theorem tMem_eq : tMem c = rSlab c := squeeze_slice_eq rM (k0_off6_eq c) _ _ _
/-- The `r`-th block to arrive is in the slab of the device `r + 1` places before, -/
theorem vMem_eq (r : Fin 7) : vMem c r = rSlab (sr c r) := squeeze_slice_eq rM (k0_off9_eq c r) _ _ _
/-- is loaded from there, -/
theorem vLd_eq (r : Fin 7) : vLd c r = smlR (sr c r) := rect_eq (k0_off10_eq c r) _ _
/-- A device's own block goes to its own rows of the result, -/
theorem oOwn_eq : oOwn c = rowR c := rect_eq (k0_off7_eq c) _ _
/-- a block received to its sender's rows. -/
theorem oRow_eq (r : Fin 7) : oRow c r = rowR (sr c r) := rect_eq (k0_off11_eq c r) _ _

/-- A semaphore of a copy in lies in the array of them; -/
theorem in_inb (j : Fin 8) : ∀ a, (![j.val] : Fin 1 → ℕ) a + S1.size a ≤ S9.size a := by
  intro a; have := j.isLt; fin_cases a; show j.val + 1 ≤ 9; omega
/-- so does one of a send or of a block. -/
theorem ss_inb (j : Fin 8) : ∀ a, (![j.val] : Fin 1 → ℕ) a + S1.size a ≤ S8.size a := by
  intro a; have := j.isLt; fin_cases a; show j.val + 1 ≤ 8; omega

/-- The semaphore at place `j` of the array of copies in; -/
theorem inS_at (j : Fin 8) :
    ((cc0_scratch4.slice (Rect.unit (s := S9) ![j.val] S1.size (in_inb j))).squeeze S_ squeezes_S1_S_).sem = inS j := by
  revert j; decide +kernel
/-- of the array of sends; -/
theorem sndS_at (j : Fin 8) :
    ((cc0_scratch5.slice (Rect.unit (s := S8) ![j.val] S1.size (ss_inb j))).squeeze S_ squeezes_S1_S_).sem = sndS j := by
  revert j; decide +kernel
/-- of the array of blocks. -/
theorem rcvS_at (j : Fin 8) :
    ((cc0_scratch6.slice (Rect.unit (s := S8) ![j.val] S1.size (ss_inb j))).squeeze S_ squeezes_S1_S_).sem = rcvS j := by
  revert j; decide +kernel

/-- The `r`-th column block's copy is on the `r`-th peer's semaphore. -/
theorem wSem_eq (r : Fin 8) : wSem c r = inS (pe c r) := by
  unfold wSem; rw [SemArray.slice_unit_congr cc0_scratch4 (k0_off1_eq c r) _ (in_inb (pe c r))]; exact inS_at (pe c r)
/-- A device's block credits the semaphore named after it. -/
theorem tSem_eq : tSem c = rcvS c := by
  unfold tSem; rw [SemArray.slice_unit_congr cc0_scratch6 (k0_off5_eq c) _ (ss_inb c)]; exact rcvS_at c
/-- The `r`-th send is on semaphore `r + 1`. -/
theorem ySem_eq (r : Fin 7) : ySem r = sndS r.succ := by
  unfold ySem; rw [SemArray.slice_unit_congr cc0_scratch5 (show ![1 + r.val] = ![(r.succ : Fin 8).val] by rw [Fin.val_succ, Nat.add_comm]) _ (ss_inb r.succ)]
  exact sndS_at r.succ
/-- The `r`-th block to arrive is on its sender's semaphore. -/
theorem vSem_eq (r : Fin 7) : vSem c r = rcvS (sr c r) := by
  unfold vSem; rw [SemArray.slice_unit_congr cc0_scratch6 (k0_off8_eq c r) _ (ss_inb (sr c r))]; exact rcvS_at (sr c r)

end Closed

/-! ## Cells -/

/-- A device's semaphores that other devices or the transfer engine raise: its barrier (`none`), the one of its
    `j`-th send (`some (false, j)`), the one of the block from device `j` (`some (true, j)`). -/
abbrev Kind' : Type := Option (Bool × Fin 8)
/-- Such a semaphore within its device. -/
def csem : Kind' → SemLoc sig
  | none => .reg barS
  | some (false, j) => .dma (sndS j)
  | some (true, j) => .dma (rcvS j)
/-- Such a semaphore of the mesh. -/
abbrev kcell (ck : Dev nD × Kind') : GSem nD τ sig := ((ck.1 : Thread nD τ), csem ck.2)
/-- The barrier of device `c`. -/
abbrev barCell (c : Dev nD) : GSem nD τ sig := ((c : Thread nD τ), .reg barS)
/-- The semaphore of device `c`'s send `j`. -/
abbrev sndCell (c : Dev nD) (j : Fin 8) : GSem nD τ sig := ((c : Thread nD τ), .dma (sndS j))
/-- The semaphore of device `c`'s block from device `j`. -/
abbrev rcvCell (c : Dev nD) (j : Fin 8) : GSem nD τ sig := ((c : Thread nD τ), .dma (rcvS j))

/-- Which of them a semaphore is. -/
def kindOf : SemLoc sig → Option Kind'
  | .reg _ => some none
  | .dma q => if h : 18 ≤ q.val then some (some (true, ⟨q.val - 18, by have : q.val < 26 := q.isLt; omega⟩))
      else if h' : 10 ≤ q.val then some (some (false, ⟨q.val - 10, by omega⟩)) else none
/-- Each is recognised as what it is, -/
theorem kindOf_csem (k : Kind') : kindOf (csem k) = some k := by revert k; decide +kernel
/-- so they differ within a device -/
theorem csem_injective : Function.Injective csem := fun a b h => by
  have := congrArg kindOf h; rw [kindOf_csem, kindOf_csem] at this; exact Option.some.inj this
/-- and over the mesh; -/
theorem kcell_injective : Function.Injective (kcell : Dev nD × Kind' → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- a copy in is on none of them. -/
theorem kindOf_in (j : Fin 8) : kindOf (.dma (inS j)) = none := by revert j; decide +kernel

/-- What one block's landing credits: the amount of a send or receive semaphore. -/
abbrev N : ℕ := (rSlab 0).view.dmaCredit
/-- It is positive, -/
theorem N_pos : 0 < N := View.dmaCredit_pos _ (by decide)
/-- the same at every slab of the receive buffer -/
theorem rSlab_credit (j : Fin 8) : (rSlab j).view.dmaCredit = N := rfl
/-- and of the send buffer. -/
theorem ySlab_credit (j : Fin 8) : (ySlab j).view.dmaCredit = N := rfl

/-! ## Contents -/

variable (m : (ℓ : Loc nD τ sig) → Buf (Elt F) ℓ)

/-- Device `c`'s rows of the activations, and its copy of column block `j` of the weights. -/
def xOf (c : Dev nD) : Vec F S128x1024 .f32 := xM.view.read (Elt F) (m ((c : Thread nD τ).loc main_arg0))
/-- Column block `j` of device `c`'s weights. -/
def wOf (c : Dev nD) (j : Fin 8) : FVec F S1024x128 .f32 := (wCol j).view.read (Elt F) (m ((c : Thread nD τ).loc main_arg1))
/-- The block device `s` sends device `c`. -/
def sent (s c : Dev nD) : FVec F S128x128 .bf16 := sendOf (xOf m s) (wOf m s c)
/-- Row block `s` of device `c`'s result: its own product where `s = c`, else the block from `s`. -/
def placed (c s : Dev nD) : FVec F S128x128 .f32 := if s = c then dotOf (xOf m c) (wOf m c c) else placeOf (sent m s c)

/-! ## The schedule -/

/-- A memref on device `c` at contents nobody names. -/
def anyAt (c : Dev nD) {sp : Space} {sh : Shape} {e : EltTy} (M : Memref sig .tc sp sh e) : sProp 𝕄 :=
  iprop(∃ f, M.view.loc (c : Thread nD τ) ↦[M.view.set]{fullShare} f)
instance anyAt_storable (c : Dev nD) {sp : Space} {sh : Shape} {e : EltTy} (M : Memref sig .tc sp sh e) :
    BI.Storable (upEmb : UEmb _ 𝕄) (anyAt c M) := by unfold anyAt; infer_instance
/-- A slab of the receive buffer, of the send buffer, at contents nobody names. -/
abbrev rAny (c : Dev nD) (j : Fin 8) : sProp 𝕄 := anyAt c (rSlab j)
/-- A slab of the send buffer at contents nobody names. -/
abbrev yAny (c : Dev nD) (j : Fin 8) : sProp 𝕄 := anyAt c (ySlab j)
/-- Slab `s` of device `c`'s receive buffer holding the block device `s` sends it. -/
def rGot (c s : Dev nD) : sProp 𝕄 := owns (c : Thread nD τ) (rSlab s) fullShare (sent m s c)

/-- Whose unit a device's barrier waits for, and which of its other semaphores are used: all but its own place. -/
def dutiesOf (c : Dev nD) : Kind' → Finset (Dev nD)
  | none => Finset.univ.erase c
  | some (false, j) => if j = 0 then ∅ else {0}
  | some (true, j) => if j = c then ∅ else {0}

/-- What a payer hands over with each duty: at the barrier, its slab for the blocks of the device signalled; with a
    send's completion, the slab sent; with a block's landing, the slab holding it. -/
def payOf (c : Dev nD) : Kind' → Dev nD → sProp 𝕄
  | none, p => rAny p c
  | some (false, j), _ => yAny c j
  | some (true, j), _ => rGot m c j

/-- What a duty pays: a unit at the barrier, a block elsewhere. -/
def amtOf : Kind' → ℕ
  | none => 1
  | some _ => N

/-- One round per semaphore. -/
def Rd : Rounds.Schedule (GSem nD τ sig) (Dev nD) 𝕄 where
  duties g r := if r = 0 ∧ g.1.2 = .tc then (kindOf g.2).elim ∅ (dutiesOf g.1.1) else ∅
  unitless _ := False
  amount g _ _ := (kindOf g.2).elim 1 amtOf
  payload g _ d := (kindOf g.2).elim iprop(emp) fun k => payOf m g.1.1 k d
  amount_pos g _ _ _ := by
    rcases kindOf g.2 with _ | _ | _
    · exact Nat.one_pos
    · exact Nat.one_pos
    · exact N_pos

instance payOf_storable (c : Dev nD) (k : Kind') (d : Dev nD) : BI.Storable (upEmb : UEmb _ 𝕄) (payOf m c k d) := by
  rcases k with _ | ⟨_ | _, j⟩
  · show BI.Storable _ (rAny d c); infer_instance
  · show BI.Storable _ (yAny c j); infer_instance
  · show BI.Storable _ (rGot m c j); unfold rGot; infer_instance
instance Rd_storable (g : GSem nD τ sig) (r : ℕ) (d : Dev nD) : BI.Storable (upEmb : UEmb _ 𝕄) ((Rd m).payload g r d) := by
  show BI.Storable upEmb ((kindOf g.2).elim iprop(emp) fun k => payOf m g.1.1 k d)
  rcases kindOf g.2 with _ | k
  · dsimp only [Option.elim]; infer_instance
  · dsimp only [Option.elim]; infer_instance

section Tables
variable (c : Dev nD) (k : Kind')

/-- A first round's duties; -/
theorem Rd_duties : (Rd m).duties (kcell (c, k)) 0 = dutiesOf c k := by
  dsimp only [Rd]; rw [if_pos ⟨rfl, rfl⟩, kindOf_csem]; rfl
/-- no later round has any. -/
theorem Rd_later (g : GSem nD τ sig) : ∀ r, 1 ≤ r → (Rd m).duties g r = ∅ :=
  fun r hr => by dsimp only [Rd]; rw [if_neg fun h => by omega]
/-- What each pays, -/
theorem Rd_amount (d : Dev nD) : (Rd m).amount (kcell (c, k)) 0 d = amtOf k := by dsimp only [Rd]; rw [kindOf_csem]; rfl
/-- what each hands over, -/
theorem Rd_payload (d : Dev nD) : (Rd m).payload (kcell (c, k)) 0 d = payOf m c k d := by dsimp only [Rd]; rw [kindOf_csem]; rfl
/-- and what a first round comes to. -/
theorem Rd_expect : (Rd m).expect (kcell (c, k)) 0 = (dutiesOf c k).card * amtOf k := by
  unfold Schedule.expect Schedule.amountOf
  rw [Rd_duties, Finset.sum_congr rfl fun d _ => Rd_amount m c k d, Finset.sum_const, smul_eq_mul]
/-- A peer has a duty at a device's barrier. -/
theorem duty_bar (p : Dev nD) (h : p ≠ c) : p ∈ (Rd m).duties (barCell c) 0 :=
  (Rd_duties m c none).symm ▸ Finset.mem_erase.mpr ⟨h, Finset.mem_univ _⟩
/-- A send's semaphore has one duty, -/
theorem dutiesOf_snd (j : Fin 8) (h : j ≠ 0) : dutiesOf c (some (false, j)) = {0} := if_neg h
/-- and so has a block's. -/
theorem dutiesOf_rcv (j : Fin 8) (h : j ≠ c) : dutiesOf c (some (true, j)) = {0} := if_neg h
/-- It is a duty of the first round, for a send -/
theorem duty_snd (j : Fin 8) (h : j ≠ 0) : 0 ∈ (Rd m).duties (sndCell c j) 0 :=
  ((Rd_duties m c (some (false, j))).trans (dutiesOf_snd c j h)).symm ▸ Finset.mem_singleton_self _
/-- and for a block. -/
theorem duty_rcv (j : Fin 8) (h : j ≠ c) : 0 ∈ (Rd m).duties (rcvCell c j) 0 :=
  ((Rd_duties m c (some (true, j))).trans (dutiesOf_rcv c j h)).symm ▸ Finset.mem_singleton_self _
/-- At the barrier a peer hands over its slab for this device's block; -/
theorem pay_bar (p : Dev nD) : (Rd m).payload (barCell c) 0 p = rAny p c := Rd_payload m c none p
/-- a send done gives back the slab sent; -/
theorem pay_snd (j : Fin 8) (d : Dev nD) : (Rd m).payload (sndCell c j) 0 d = yAny c j := Rd_payload m c (some (false, j)) d
/-- a block landed gives the slab holding it. -/
theorem pay_rcv (j : Fin 8) (d : Dev nD) : (Rd m).payload (rcvCell c j) 0 d = rGot m c j := Rd_payload m c (some (true, j)) d
/-- What a whole first round hands over. -/
theorem Rd_rest : bigSep ((Rd m).duties (kcell (c, k)) 0 \ ∅) (fun d => (Rd m).payload (kcell (c, k)) 0 d)
    = bigSep (dutiesOf c k) fun d => payOf m c k d := by
  rw [Finset.sdiff_empty, Rd_duties]; exact bigSep_congr fun d _ => Rd_payload m c k d

end Tables

/-! ## What a device owes; the levels -/

/-- What device `c` still owes when the sends in `l` are ahead of it, -/
def owR (c : Dev nD) : List (Fin 7) → CellTallies nD τ sig Unit
  | [] => 0
  | r :: l => owR c l + tallyAt (rcvCell (pe c r) c) () N
/-- and when the signals in `l` and every send are. -/
def owB (c : Dev nD) : List (Fin 7) → CellTallies nD τ sig Unit
  | [] => owR c [0, 1, 2, 3, 4, 5, 6]
  | r :: l => owB c l + tallyAt (barCell (pe c r)) () 1
/-- What device `c` owes at its start: every signal and every send. -/
def O₀ (c : Dev nD) : CellTallies nD τ sig Unit := owB c [0, 1, 2, 3, 4, 5, 6]

/-- A device's semaphores are given levels. -/
def L (g : GSem nD τ sig) : Finset Unit := if g.1.2 = .tc then {()} else ∅
/-- Barriers at 1, receive semaphores at 2, every other at 0. -/
def lv (g : GSem nD τ sig) (_ : Unit) : ℕ :=
  match kindOf g.2 with
  | some none => 1
  | some (some (true, _)) => 2
  | _ => 0

/-- No other thread's are, -/
theorem L_of_ne (g : GSem nD τ sig) (h : g.1.2 ≠ .tc) : L g = ∅ := if_neg h
/-- a device's all are; -/
theorem L_tc (c : Dev nD) (sm : SemLoc sig) : L ((c : Thread nD τ), sm) = {()} := if_pos rfl
/-- the level of each semaphore that others raise. -/
theorem lv_k (c : Dev nD) (k : Kind') (u : Unit) : lv (kcell (c, k)) u = match k with | none => 1 | some (true, _) => 2 | _ => 0 := by
  dsimp only [lv]; rw [kindOf_csem]; rcases k with _ | ⟨_ | _, j⟩ <;> rfl

/-- What is owed with one more due is owed without it, or is that due. -/
theorem add_pos_cases {O : CellTallies nD τ sig Unit} {g' g : GSem nD τ sig} {n : ℕ} {u : Unit}
    (h : 0 < (O + tallyAt g' () n) g u) : 0 < O g u ∨ g = g' := by
  rw [Pi.add_apply, Finsupp.add_apply, tallyAt_apply] at h
  by_cases hg : g = g' ∧ u = ()
  · exact Or.inr hg.1
  · rw [if_neg hg] at h; exact Or.inl h

/-- Sends owe receive semaphores only; -/
theorem owR_pos {c : Dev nD} {l : List (Fin 7)} {g : GSem nD τ sig} {u : Unit} (h : 0 < owR c l g u) :
    ∃ d : Dev nD, g = kcell (d, some (true, c)) := by
  induction l with
  | nil => exact absurd h (Nat.lt_irrefl 0)
  | cons r l ih => rcases add_pos_cases h with h | rfl
                   · exact ih h
                   · exact ⟨_, rfl⟩
/-- signals and sends owe barriers and receive semaphores only. -/
theorem owB_pos {c : Dev nD} {l : List (Fin 7)} {g : GSem nD τ sig} {u : Unit} (h : 0 < owB c l g u) :
    (∃ d : Dev nD, g = kcell (d, some (true, c))) ∨ ∃ d : Dev nD, g = kcell (d, none) := by
  induction l with
  | nil => exact Or.inl (owR_pos h)
  | cons r l ih => rcases add_pos_cases h with h | rfl
                   · exact ih h
                   · exact Or.inr ⟨_, rfl⟩

/-- A device may wait at a semaphore nothing else waits behind, whatever it owes. -/
theorem mayWait_low (c : Dev nD) (q : DmaSem sig) (hq : ∀ c' : Dev nD, lv ((c' : Thread nD τ), .dma q) () = 0) (l : List (Fin 7)) :
    (levAts L lv : sProp 𝕄) ⊢ MayWait (c : Thread nD τ) (.dma q) () (owB c l) :=
  MayOwe.of_cut (L := L) (lev := lv) 0 (fun p hp => by rw [Finset.mem_singleton.mp hp, L_tc]; exact Finset.mem_singleton_self _)
    (fun g u hg => by rcases owB_pos hg with ⟨d, rfl⟩ | ⟨d, rfl⟩ <;> exact Finset.mem_singleton_self _)
    (fun p hp => by rw [Finset.mem_singleton.mp hp]; exact (hq c).le)
    (fun g u hg => by
      rcases owB_pos hg with ⟨d, rfl⟩ | ⟨d, rfl⟩
      · rw [lv_k]; exact Nat.zero_lt_two
      · rw [lv_k]; exact Nat.one_pos)
/-- The same while only sends are owed. -/
theorem mayWait_lowR (c : Dev nD) (q : DmaSem sig) (hq : ∀ c' : Dev nD, lv ((c' : Thread nD τ), .dma q) () = 0) (l : List (Fin 7)) :
    (levAts L lv : sProp 𝕄) ⊢ MayWait (c : Thread nD τ) (.dma q) () (owR c l) :=
  MayOwe.of_cut (L := L) (lev := lv) 0 (fun p hp => by rw [Finset.mem_singleton.mp hp, L_tc]; exact Finset.mem_singleton_self _)
    (fun g u hg => by obtain ⟨d, rfl⟩ := owR_pos hg; exact Finset.mem_singleton_self _)
    (fun p hp => by rw [Finset.mem_singleton.mp hp]; exact (hq c).le)
    (fun g u hg => by obtain ⟨d, rfl⟩ := owR_pos hg; rw [lv_k]; exact Nat.zero_lt_two)
/-- At its barrier a device owes blocks only: the receive semaphores they land on are above. -/
theorem mayWait_bar (c : Dev nD) (l : List (Fin 7)) :
    (levAts L lv : sProp 𝕄) ⊢ MayWait (c : Thread nD τ) (.reg barS) () (owR c l) :=
  MayOwe.of_cut (L := L) (lev := lv) 1 (fun p hp => by rw [Finset.mem_singleton.mp hp, L_tc]; exact Finset.mem_singleton_self _)
    (fun g u hg => by obtain ⟨d, rfl⟩ := owR_pos hg; exact Finset.mem_singleton_self _)
    (fun p hp => by rw [Finset.mem_singleton.mp hp]; exact (lv_k c none ()).le)
    (fun g u hg => by obtain ⟨d, rfl⟩ := owR_pos hg; rw [lv_k]; exact Nat.one_lt_two)

end Cert.KernelIdeal
-- ==== Proof.KernelIdeal.Body.lean ====
/- The body of the kernel, one rule per step and one for the loops, from what a device starts with to what it ends with. -/
module

public import proofs.«01_k».proof.Proof.KernelIdeal.Mesh
public import Idealize.ShloMosaic.Lib.Pipeline.Value

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- No loop of the program needs a variant. -/
abbrev 𝒱₀ : Variants := Variants.none

/-- The weakest precondition of a piece of the body on device `c`. -/
abbrev WP (c : Dev nD) {α : Type} (p : Body F α) (Q : α → sProp 𝕄) : sProp 𝕄 :=
  wp frame (wpE (defs₀ (F := F)) 𝒱₀ (c : Thread nD τ) none) Set.univ p Q

/-- Device `c` owes `O`, whatever waits it has recorded. -/
def owesS (c : Dev nD) (O : CellTallies nD τ sig Unit) : sProp 𝕄 := iprop(∃ W, owes (c : Thread nD τ) O W)

/-! ## Putting steps in sequence -/

/-- A family over a set and one more. -/
theorem star_insert {I : Type} [DecidableEq I] {s : Finset I} {i : I} (hi : i ∉ s) {Φ : I → sProp 𝕄} :
    bigSep (insert i s) Φ = iprop(Φ i ∗ bigSep s Φ) := bigSep_insert hi

/-- One member out of a family. -/
theorem star_elim {I : Type} [DecidableEq I] {s : Finset I} {i : I} (hi : i ∈ s) {Φ : I → sProp 𝕄} : iprop(bigSep s Φ) ⊢ Φ i := bigSep_elim hi

/-- A step at the head of a program: what is left of the program runs from what the step leaves. -/
theorem seq {c : Dev nD} {α β : Type} {p : Body F α} {k : α → Body F β} {P : sProp 𝕄} {Φ : α → sProp 𝕄} {Q : β → sProp 𝕄}
    (h : P ⊢ WP c p Φ) : P ⊢ iprop((∀ a, Φ a -∗ WP c (k a) Q) -∗ WP c (p >>= k) Q) := by
  unfold WP; rw [wp_bind]; exact h.trans (wp_wand frame _ Set.univ)

/-- A loop: where every step takes what its element needs to what its element leaves, and a state that follows the list, the
    loop takes the needs of all to the leavings of all. -/
theorem wp_forL {c : Dev nD} {A : Type} [DecidableEq A] (f : A → Body F PUnit) (R : sProp 𝕄) [BI.Persistent R] (Pre Post : A → sProp 𝕄)
    (J : List A → sProp 𝕄) (h : ∀ a l, iprop(R ∗ Pre a ∗ J (a :: l)) ⊢ WP c (f a) (fun _ => iprop(Post a ∗ J l))) (l : List A) (hl : l.Nodup) :
    iprop(R ∗ bigSep l.toFinset Pre ∗ J l) ⊢ WP c (forL f l) (fun _ => iprop(bigSep l.toFinset Post ∗ J [])) := by
  induction l with
  | nil =>
    show _ ⊢ WP c (Prog.ret PUnit.unit : Body F PUnit) _
    unfold WP; rw [wp_ret]
    simp only [List.toFinset_nil, bigSep_empty]
    iintro ⟨-, He, HJ⟩; imodintro; isplitl [He] <;> iassumption
  | cons a l ih =>
    have ha : a ∉ l.toFinset := fun h' => (List.nodup_cons.mp hl).1 (List.mem_toFinset.mp h')
    rw [List.toFinset_cons, star_insert ha, star_insert ha]
    iintro ⟨#HR, ⟨Ha, Hl⟩, HJ⟩
    iapply (seq (h a l)) $$ [Ha HJ]
    · isplitr; · iexact HR
      isplitl [Ha] <;> iassumption
    iintro %_ ⟨Ha, HJ⟩
    unfold WP
    iapply (wp_wand frame _ Set.univ) $$ [Hl HJ]
    · iapply (ih (List.nodup_cons.mp hl).2)
      isplitr; · iexact HR
      isplitl [Hl] <;> iassumption
    iintro %_ ⟨Hl, HJ⟩
    isplitr [HJ]
    · isplitl [Ha] <;> iassumption
    · iexact HJ

/-! ## One effect at a time -/

section Effects
variable (c : Dev nD)

/-- A memref at known contents is one at some contents; -/
theorem owns_any {sp : Space} {s : Shape} {e : EltTy} (M : Memref sig .tc sp s e) (X : s.Idx → Elt F e) :
    (owns (c : Thread nD τ) M fullShare X : sProp 𝕄) ⊢ anyAt c M := by
  unfold owns anyAt; iintro ⟨%f, -, H⟩; iexists f; iexact H
/-- so is one at the contents of its buffer; -/
theorem pts_any {sp : Space} {s : Shape} {e : EltTy} (M : Memref sig .tc sp s e) (f : Buf (Elt F) (M.view.loc (c : Thread nD τ))) :
    (M.view.loc (c : Thread nD τ) ↦[M.view.set]{fullShare} f : sProp 𝕄) ⊢ anyAt c M := by
  unfold anyAt; iintro H; iexists f; iexact H
/-- and back, at contents of its own. -/
theorem any_owns {sp : Space} {s : Shape} {e : EltTy} (M : Memref sig .tc sp s e) :
    (anyAt c M : sProp 𝕄) ⊢ iprop(∃ X, owns (c : Thread nD τ) M fullShare X) := by
  unfold anyAt; iintro ⟨%f, H⟩; iexists _; iapply (owns_intro (c : Thread nD τ) M fullShare f); iexact H

/-- A memref written whole is owned at what was written. -/
theorem written_owns (t : Thread nD τ) {sp : Space} {s : Shape} {e : EltTy} (M : Memref sig t.2.kind sp s e) (f : Buf (Elt F) (M.view.loc t))
    (w : s.Idx → Elt F e) :
    (M.view.loc t ↦[M.view.set]{fullShare} (M.view.write (Elt F) f w Finset.univ) : sProp 𝕄) ⊢ owns t M fullShare w := by
  unfold owns; iintro H; iexists _; isplitr
  · ipureintro; exact View.read_write_univ f w
  · iexact H

/-- A copy within the device starts: it is in flight, to leave the source as it was and the destination reading the same. -/
theorem copy_start {sp sp' : Space} {s : Shape} {e : EltTy} (src : Memref sig .tc sp s e) (dst : Memref sig .tc sp' s e) (q : DmaSem sig)
    (hsrc : src.view.WordExact) (hdst : dst.view.WordExact) (hsem : DmaTarget.Typed (nD := nD) (τ := τ) sp (.dma q) (.here dst : DmaTarget nD τ sig .tc sp' s e))
    (hpos : 0 < dst.view.dmaCredit) (fs : Buf (Elt F) (src.view.loc (c : Thread nD τ))) :
    iprop((src.view.loc (c : Thread nD τ) ↦[src.view.set]{fullShare} fs) ∗ anyAt c dst ∗ semVal ((c : Thread nD τ), .dma q) 0)
      ⊢ WP (F := F) c (Prog.lift (.enqueueDma src (.here dst) (.dma q) hsrc hdst hsem))
          (fun _ => Flight EC (c : Thread nD τ) (.dma q) () dst.view.dmaCredit
            iprop(owns (c : Thread nD τ) dst fullShare (src.view.read (Elt F) fs) ∗ (src.view.loc (c : Thread nD τ) ↦[src.view.set]{fullShare} fs))) := by
  unfold anyAt WP
  simp only [Prog.lift]
  iintro ⟨Hs, ⟨%fd, Hd⟩, Hv⟩
  iapply (wp_dmaLocal EC 𝒱₀ (c : Thread nD τ) none () dst.view.dmaCredit rfl hpos (Finset.Subset.refl _)) $$ [Hs Hd Hv]
  · isplitl [Hs]; · iexact Hs
    isplitl [Hd] <;> iassumption
  iintro Hf
  rw [wp_ret]; imodintro
  iapply (Flight_mono EC (c : Thread nD τ) (sep_mono_left (written_owns (c : Thread nD τ) dst fd _))) $$ Hf

/-- It is waited for: what it was to leave is there, and its semaphore is at zero again. -/
theorem copy_wait {sp sp' : Space} {s : Shape} {e : EltTy} (src : Memref sig .tc sp s e) (dst : Memref sig .tc sp' s e) (q : DmaSem sig)
    (hsrc : src.view.WordExact) (hdst : dst.view.WordExact) (D : sProp 𝕄) (O : CellTallies nD τ sig Unit)
    (hO : (levAts L lv : sProp 𝕄) ⊢ MayWait (c : Thread nD τ) (.dma q) () O) :
    iprop(levAts L lv ∗ Flight EC (c : Thread nD τ) (.dma q) () dst.view.dmaCredit D ∗ owesS c O)
      ⊢ WP (F := F) c (Prog.lift (.waitDma2 q src dst hsrc hdst))
          (fun _ => iprop(D ∗ semVal ((c : Thread nD τ), .dma q) 0 ∗ owesS c O)) := by
  unfold WP owesS
  simp only [Prog.lift]
  iintro ⟨#Hlev, Hf, ⟨%W, HO⟩⟩
  iapply (wp_waitLocalO EC 𝒱₀ (c : Thread nD τ) none () rfl) $$ [Hf HO]
  · isplitl [Hf]; · iexact Hf
    isplitl [HO]; · iexact HO
    iapply hO; iexact Hlev
  iintro ⟨HD, Hv, HO⟩
  rw [wp_ret]; imodintro
  isplitl [HD]; · iexact HD
  isplitl [Hv]; · iexact Hv
  iexists _; iexact HO

/-- A slab read through its buffer: the vector, its leading axis dropped, is what the slab holds. -/
theorem slab_load {cs : CoreSpace} {s s' : Shape} {e : EltTy} (M : Memref sig .tc cs s e) (r : Rect s) (hr : ∀ a, r.stride a = 1)
    (hq : r.shape.Squeezes s') (hc : r.shape.ShapeCasts s') (hl : M.view.LoadsAt r.toLoadRect) (X : s'.Idx → Elt F e) :
    owns (c : Thread nD τ) ((M.slice r hr).squeeze s' hq) fullShare X
      ⊢ WP (F := F) c (Prog.lift (.load M r.toLoadRect hl))
          (fun v => iprop(⌜shapeCast s' v hc = X⌝ ∗ owns (c : Thread nD τ) ((M.slice r hr).squeeze s' hq) fullShare X)) := by
  unfold WP owns
  simp only [Prog.lift]
  iintro ⟨%f, %hf, H⟩
  iapply (wp_load_rect 𝒱₀ (c : Thread nD τ) none Set.univ (m := M) (r := r) (S := ((M.slice r hr).squeeze s' hq).view.set)
    (subset_of_eq (View.set_reshape (v := (M.slice r hr).view) _).symm)) $$ H
  iintro H
  rw [wp_ret]; imodintro
  isplitr; · ipureintro; exact hf
  iexists f; isplitr; · ipureintro; exact hf
  iexact H

/-- A slab written through its buffer. -/
theorem slab_store {cs : CoreSpace} {s s' : Shape} {e : EltTy} (M : Memref sig .tc cs s e) (r : Rect s) (hr : ∀ a, r.stride a = 1)
    (hq : r.shape.Squeezes s') (hc : r.shape.ShapeCasts s') (w : r.shape.Idx → Elt F e) (hx : (M.access r).Stores Finset.univ)
    (hm : Finset.univ = Finset.univ ∨ ∀ a, r.stride a = 1) :
    anyAt c ((M.slice r hr).squeeze s' hq)
      ⊢ WP (F := F) c (Prog.lift (.store M r w Finset.univ hx hm))
          (fun _ => owns (c : Thread nD τ) ((M.slice r hr).squeeze s' hq) fullShare (shapeCast s' w hc)) := by
  unfold WP owns anyAt
  simp only [Prog.lift]
  iintro ⟨%f, H⟩
  iapply (wp_store 𝒱₀ (c : Thread nD τ) none Set.univ (m := M) (r := r) (Mk := Finset.univ) (S := ((M.slice r hr).squeeze s' hq).view.set)
    (subset_of_eq (View.set_reshape (v := (M.slice r hr).view) _).symm)) $$ H
  iintro H
  rw [wp_ret]; imodintro
  iexists _; isplitr
  · ipureintro; exact congrArg (shapeCast s' · hc) (View.read_write_univ (v := M.access r) f w)
  iexact H

/-- Rows read and written through their buffer. -/
theorem rows_load {cs : CoreSpace} {s : Shape} {e : EltTy} (M : Memref sig .tc cs s e) (r : Rect s) (hr : ∀ a, r.stride a = 1)
    (hl : M.view.LoadsAt r.toLoadRect) :
    anyAt c (M.slice r hr) ⊢ WP (F := F) c (Prog.lift (.load M r.toLoadRect hl)) (fun v => anyAt c (M.slice r hr)) := by
  unfold WP anyAt
  simp only [Prog.lift]
  iintro ⟨%f, H⟩
  iapply (wp_load_rect 𝒱₀ (c : Thread nD τ) none Set.univ (m := M) (r := r) (S := (M.slice r hr).view.set) (subset_of_eq rfl)) $$ H
  iintro H
  rw [wp_ret]; imodintro
  iexists f; iexact H
/-- A store of a whole rectangle needs it at any contents and leaves the words stored. -/
theorem rows_store {cs : CoreSpace} {s : Shape} {e : EltTy} (M : Memref sig .tc cs s e) (r : Rect s) (hr : ∀ a, r.stride a = 1)
    (w : r.shape.Idx → Elt F e) (hx : (M.access r).Stores Finset.univ) (hm : Finset.univ = Finset.univ ∨ ∀ a, r.stride a = 1) :
    anyAt c (M.slice r hr) ⊢ WP (F := F) c (Prog.lift (.store M r w Finset.univ hx hm))
      (fun _ => owns (c : Thread nD τ) (M.slice r hr) fullShare w) := by
  unfold WP owns anyAt
  simp only [Prog.lift]
  iintro ⟨%f, H⟩
  iapply (wp_store 𝒱₀ (c : Thread nD τ) none Set.univ (m := M) (r := r) (Mk := Finset.univ) (S := (M.slice r hr).view.set) (subset_of_eq rfl)) $$ H
  iintro H
  rw [wp_ret]; imodintro
  iexists _; isplitr
  · ipureintro; exact View.read_write_univ (v := M.access r) f w
  iexact H

/-- The same at a rectangle whose offset is known equal to the slab's. -/
theorem slab_load_at {cs : CoreSpace} {s s' : Shape} {e : EltTy} (M : Memref sig .tc cs s e) {off off' size : Fin s.rank → ℕ} (h : off = off')
    (hi : ∀ a, off a + size a ≤ s.size a) (hi' : ∀ a, off' a + size a ≤ s.size a)
    (hq : (⟨s.rank, size⟩ : Shape).Squeezes s') (hc : (⟨s.rank, size⟩ : Shape).ShapeCasts s')
    (hl : M.view.LoadsAt (Rect.unit (s := s) off size hi).toLoadRect) (X : s'.Idx → Elt F e) :
    owns (c : Thread nD τ) ((M.slice (Rect.unit (s := s) off' size hi') (fun _ => rfl)).squeeze s' hq) fullShare X
      ⊢ WP (F := F) c (Prog.lift (.load M (Rect.unit (s := s) off size hi).toLoadRect hl))
          (fun v => iprop(⌜shapeCast s' v hc = X⌝ ∗ owns (c : Thread nD τ) ((M.slice (Rect.unit (s := s) off' size hi') (fun _ => rfl)).squeeze s' hq) fullShare X)) := by
  subst h; exact slab_load c M _ _ hq hc hl X
/-- A load of a slab, its offset given in another form; -/
theorem rows_load_at {cs : CoreSpace} {s : Shape} {e : EltTy} (M : Memref sig .tc cs s e) {off off' size : Fin s.rank → ℕ} (h : off = off')
    (hi : ∀ a, off a + size a ≤ s.size a) (hi' : ∀ a, off' a + size a ≤ s.size a)
    (hl : M.view.LoadsAt (Rect.unit (s := s) off size hi).toLoadRect) :
    anyAt c (M.slice (Rect.unit (s := s) off' size hi') (fun _ => rfl))
      ⊢ WP (F := F) c (Prog.lift (.load M (Rect.unit (s := s) off size hi).toLoadRect hl))
          (fun v => anyAt c (M.slice (Rect.unit (s := s) off' size hi') (fun _ => rfl))) := by
  subst h; exact rows_load c M _ _ hl
/-- a store of one. -/
theorem rows_store_at {cs : CoreSpace} {s : Shape} {e : EltTy} (M : Memref sig .tc cs s e) {off off' size : Fin s.rank → ℕ} (h : off = off')
    (hi : ∀ a, off a + size a ≤ s.size a) (hi' : ∀ a, off' a + size a ≤ s.size a)
    (w : (⟨s.rank, size⟩ : Shape).Idx → Elt F e) (hx : (M.access (Rect.unit (s := s) off size hi)).Stores Finset.univ)
    (hm : Finset.univ = Finset.univ ∨ ∀ a, (Rect.unit (s := s) off size hi).stride a = 1) :
    anyAt c (M.slice (Rect.unit (s := s) off' size hi') (fun _ => rfl))
      ⊢ WP (F := F) c (Prog.lift (.store M (Rect.unit (s := s) off size hi) w Finset.univ hx hm))
      (fun _ => owns (c : Thread nD τ) (M.slice (Rect.unit (s := s) off' size hi') (fun _ => rfl)) fullShare w) := by
  subst h; exact rows_store c M (Rect.unit (s := s) off size hi) (fun _ => rfl) w hx hm

/-! ## Signals, sends and waits -/

variable (m : (ℓ : Loc nD τ sig) → Buf (Elt F) ℓ) (K : Dev nD × Kind' → ℕ)

/-- What every device knows throughout: the cells' invariants, that each is at its first round, and the levels. -/
def Ctx : sProp 𝕄 :=
  iprop(bigSep Finset.univ (fun ck : Dev nD × Kind' => cellInv ER (Rd m) (K ck) (kcell ck))
    ∗ bigSep Finset.univ (fun ck : Dev nD × Kind' => reached ER (kcell ck) 0) ∗ levAts L lv)
instance Ctx_persistent : BI.Persistent (Ctx m K) := by unfold Ctx; infer_instance
/-- A cell's invariant is known, -/
theorem Ctx_inv (c : Dev nD) (k : Kind') : Ctx m K ⊢ cellInv ER (Rd m) (K (c, k)) (kcell (c, k)) := by
  unfold Ctx; iintro ⟨H, -, -⟩; iapply (star_elim (Finset.mem_univ (c, k))) $$ H
/-- that its first round is reached, -/
theorem Ctx_reached (c : Dev nD) (k : Kind') : Ctx m K ⊢ reached ER (kcell (c, k)) 0 := by
  unfold Ctx; iintro ⟨-, H, -⟩; iapply (star_elim (Φ := fun ck : Dev nD × Kind' => reached ER (kcell ck) 0) (Finset.mem_univ (c, k))) $$ H
/-- and the levels. -/
theorem Ctx_lev : Ctx m K ⊢ levAts L lv := by unfold Ctx; iintro ⟨-, -, H⟩; iexact H

/-- A unit goes to a peer's barrier, with the slab of one's own receive buffer that the peer's block is to land in. -/
theorem sig_step (p d : Dev nD) (hp : p ≠ c) (hd : d = p) (O : CellTallies nD τ sig Unit) :
    iprop(Ctx m K ∗ (dutyTok ER (barCell p) 0 c ∗ rAny c p) ∗ owesS c (O + tallyAt (barCell p) () 1))
      ⊢ WP (F := F) c (semSignalWord d barS 1#32) (fun _ => owesS c O) := by
  subst hd
  unfold WP owesS
  simp only [semSignalWord, Prog.lift, Prog.bind_op, Prog.bind_ret, Prog.pure_eq_ret]
  iintro ⟨#HC, ⟨Ht, Hr⟩, ⟨%W, HO⟩⟩
  iapply (Rounds.wp_signal 𝒱₀ ER (Rd m) (c : Thread nD τ) none (dst := (d : Thread nD τ)) (κ := K (d, none))
      (d := c) (duty_bar m d c hp.symm) ((Rd_amount m d none c).trans (by decide)) () O rfl)
    $$ [HO Ht Hr]
  · isplitr; · iapply (Ctx_inv m K d none); iexact HC
    isplitl [HO]; · iexact HO
    isplitl [Ht]; · iexact Ht
    isplitl [Hr]; · rw [pay_bar m d]; iexact Hr
    iapply (Ctx_reached m K d none); iexact HC
  iintro HO
  rw [wp_ret]; imodintro
  iexists W; iexact HO

/-- A wait for a whole round of one of the device's own semaphores: every payload of the round. -/
theorem wait_step (k : Kind') (w : TpuEff nD τ sig (Elt F) Λ₀ .tc PUnit) (n : ℕ) (hn : (dutiesOf c k).card * amtOf k = n)
    (hw : ∀ Q : PUnit → sProp 𝕄, wpE (defs₀ (F := F)) 𝒱₀ (c : Thread nD τ) none Set.univ w Q = waitSpec (c : Thread nD τ) Set.univ (csem k) n Q)
    (O : CellTallies nD τ sig Unit) (hO : (levAts L lv : sProp 𝕄) ⊢ MayWait (c : Thread nD τ) (csem k) () O) :
    iprop(Ctx m K ∗ (cred (tallyAt (kcell (c, k)) () n) ∗ atPos ER (kcell (c, k)) 0 ∅ 0) ∗ owesS c O)
      ⊢ WP (F := F) c (Prog.lift w)
          (fun _ => iprop((atPos ER (kcell (c, k)) 1 ∅ 0 ∗ bigSep (dutiesOf c k) fun d => payOf m c k d) ∗ owesS c O)) := by
  unfold WP owesS
  simp only [Prog.lift]
  iintro ⟨#HC, ⟨Hc, Ha⟩, ⟨%W, HO⟩⟩
  iapply (Rounds.wp_wait_rest_token 𝒱₀ ER (Rd m) (c : Thread nD τ) none (κ := K (c, k))
      hw (Set.mem_univ _) () (O := O) (W := W) (R := 0) (m := 0) (T := ∅)
      (by rw [Nat.zero_add]; exact ((Rd_expect m c k).trans hn).symm)) $$ [Hc HO Ha]
  · isplitr; · iapply (Ctx_inv m K c k); iexact HC
    isplitl [Hc]; · iexact Hc
    isplitl [HO]; · iexact HO
    isplitr; · iapply hO; iapply (Ctx_lev m K); iexact HC
    iexact Ha
  iintro ⟨HO, Ha, -, Hp⟩
  rw [wp_ret]; imodintro
  isplitr [HO]
  · isplitl [Ha]; · iexact Ha
    iapply (Entails.of_eq (Rd_rest m c k)) $$ Hp
  · iexists _; iexact HO

/-- A block goes to a peer: from the send buffer's slab `j` to the peer's slab for this device. -/
theorem send_step (j : Fin 8) (hj : j ≠ 0) (p d : Dev nD) (hp : p ≠ c) (hd : d = p)
    (src dst : Memref sig .tc .vmem S128x128 .bf16) (sS sR : DmaSem sig) (h₁ : src = ySlab j) (h₂ : dst = rSlab c) (h₃ : sS = sndS j) (h₄ : sR = rcvS c)
    (hsc : dst.view.ref.isScScratch = false)
    (hsrc : src.view.WordExact) (hdst : dst.view.WordExact)
    (hsem : DmaTarget.Typed .vmem (.dma sR) (.remote (Dev.tc d : Thread nD τ) dst (.dma sS) hsc : DmaTarget nD τ sig .tc .vmem S128x128 .bf16))
    (O : CellTallies nD τ sig Unit) :
    iprop(Ctx m K ∗ (owns (c : Thread nD τ) (ySlab j) fullShare (sent m c p) ∗ rAny p c ∗ dutyTok ER (sndCell c j) 0 0 ∗ dutyTok ER (rcvCell p c) 0 0)
        ∗ owesS c (O + tallyAt (rcvCell p c) () N))
      ⊢ WP (F := F) c (Prog.lift (.enqueueDma src (.remote (Dev.tc d : Thread nD τ) dst (.dma sS) hsc) (.dma sR) hsrc hdst hsem))
          (fun _ => iprop(cred (tallyAt (sndCell c j) () N) ∗ owesS c O)) := by
  subst hd; subst h₁; subst h₂; subst h₃; subst h₄
  unfold WP owesS
  simp only [Prog.lift]
  rw [show (owns (c : Thread nD τ) (ySlab j) fullShare (sent m c d) : sProp 𝕄)
    = iprop(∃ f, ⌜(ySlab j).view.read (Elt F) f = sent m c d⌝ ∗ ((ySlab j).view.loc (c : Thread nD τ) ↦[(ySlab j).view.set]{fullShare} f)) from rfl,
    show (rAny d c : sProp 𝕄) = iprop(∃ f, (rSlab c).view.loc (d : Thread nD τ) ↦[(rSlab c).view.set]{fullShare} f) from rfl]
  iintro ⟨#HC, ⟨⟨%fs, %hfs, Hs⟩, ⟨%fd, Hd⟩, Ht₁, Ht₂⟩, ⟨%W, HO⟩⟩
  iapply (Rounds.wp_send_pointsTo 𝒱₀ ER (Rd m) (c : Thread nD τ) none (κ₁ := K (c, some (false, j))) (κ₂ := K (d, some (true, c)))
    (r₁ := 0) (r₂ := 0) (d₁ := 0) (d₂ := 0) (fs := fs) (fd := fd)
    (duty_snd m c j hj)
    (duty_rcv m d c hp.symm)
    () () N rfl (Rd_amount m c (some (false, j)) 0) (Rd_amount m d (some (true, c)) 0) O rfl (W := W)
    (by rw [pay_snd m c j]; exact pts_any c (ySlab j) fs)
    (by rw [pay_rcv m d c, hfs]; exact written_owns (d : Thread nD τ) (rSlab c) fd _)) $$ [Hs Hd HO Ht₁ Ht₂]
  · isplitr; · iapply (Ctx_inv m K c (some (false, j))); iexact HC
    isplitr; · iapply (Ctx_inv m K d (some (true, c))); iexact HC
    isplitl [Hs]; · iexact Hs
    isplitl [Hd]; · iexact Hd
    isplitl [HO]; · iexact HO
    isplitl [Ht₁]; · iexact Ht₁
    isplitr; · iapply (Ctx_reached m K c (some (false, j))); iexact HC
    isplitl [Ht₂]; · iexact Ht₂
    iapply (Ctx_reached m K d (some (true, c))); iexact HC
  iintro ⟨Hc, HO⟩
  rw [wp_ret]; imodintro
  isplitl [Hc]; · iexact Hc
  iexists W; iexact HO

/-- The same for a wait on a transfer's semaphore. -/
theorem dma_wait_step (k : Kind') (hk : (dutiesOf c k).card * amtOf k = N) (q : DmaSem sig) (hq : csem k = .dma q)
    {sp sp' : Space} {s s' : Shape} {e e' : EltTy} (src : Memref sig .tc sp' s' e') (dst : Memref sig .tc sp s e) (hd : dst.view.dmaCredit = N)
    (hsrc : src.view.WordExact) (hdst : dst.view.WordExact) :
    iprop(Ctx m K ∗ (cred (tallyAt (kcell (c, k)) () N) ∗ atPos ER (kcell (c, k)) 0 ∅ 0) ∗ owesS c 0)
      ⊢ WP (F := F) c (Prog.lift (.waitDma2 q src dst hsrc hdst))
          (fun _ => iprop((atPos ER (kcell (c, k)) 1 ∅ 0 ∗ bigSep (dutiesOf c k) fun d => payOf m c k d) ∗ owesS c 0)) :=
  wait_step c m K k (.waitDma2 q src dst hsrc hdst) N hk (fun Q => by rw [hq, ← hd]; rfl) 0 (by rw [MayWait_zero]; iintro -; iempintro)

end Effects

/-! ## The steps of the body -/

section Steps
variable (c : Dev nD) (m : (ℓ : Loc nD τ sig) → Buf (Elt F) ℓ) (K : Dev nD × Kind' → ℕ)

/-- The activations' copy before and during its flight. -/
def xHeld : sProp 𝕄 :=
  iprop((xM.view.loc (c : Thread nD τ) ↦[xM.view.set]{fullShare} m ((c : Thread nD τ).loc main_arg0)) ∗ anyAt c xvM ∗ semVal ((c : Thread nD τ), .dma xSem) 0)
/-- The rows' copy in flight. -/
def xFly : sProp 𝕄 :=
  Flight EC (c : Thread nD τ) (.dma xSem) () xvM.view.dmaCredit
    iprop(owns (c : Thread nD τ) xvM fullShare (xOf m c) ∗ (xM.view.loc (c : Thread nD τ) ↦[xM.view.set]{fullShare} m ((c : Thread nD τ).loc main_arg0)))
/-- Column block `j`'s copy before and during its flight. -/
def wHeld (j : Fin 8) : sProp 𝕄 :=
  iprop(((wCol j).view.loc (c : Thread nD τ) ↦[(wCol j).view.set]{fullShare} m ((c : Thread nD τ).loc main_arg1)) ∗ anyAt c (wSlab j)
    ∗ semVal ((c : Thread nD τ), .dma (inS j)) 0)
/-- The copy of column block `j` in flight. -/
def wFly (j : Fin 8) : sProp 𝕄 :=
  Flight EC (c : Thread nD τ) (.dma (inS j)) () (wSlab j).view.dmaCredit
    iprop(owns (c : Thread nD τ) (wSlab j) fullShare (wOf m c j) ∗ ((wCol j).view.loc (c : Thread nD τ) ↦[(wCol j).view.set]{fullShare} m ((c : Thread nD τ).loc main_arg1)))

/-- The rows start on their way in. -/
theorem xIn_step : xHeld c m ⊢ WP (F := F) c xIn (fun _ => xFly c m) :=
  copy_start c xM xvM xSem _ _ _ (View.dmaCredit_pos _ (by decide)) _

/-- A column block starts on its way in, its places given in another form; -/
theorem wIn_at (j : Fin 8) (src : Memref sig .tc .hbm S1024x128 .f32) (dst : Memref sig .tc .vmem S1024x128 .f32) (q : DmaSem sig)
    (h₁ : src = wCol j) (h₂ : dst = wSlab j) (h₃ : q = inS j) (hsrc : src.view.WordExact) (hdst : dst.view.WordExact)
    (hsem : DmaTarget.Typed (nD := nD) (τ := τ) .hbm (.dma q) (.here dst : DmaTarget nD τ sig .tc .vmem S1024x128 .f32)) :
    wHeld c m j ⊢ WP (F := F) c (Prog.lift (.enqueueDma src (.here dst) (.dma q) hsrc hdst hsem)) (fun _ => wFly c m j) := by
  subst h₁; subst h₂; subst h₃
  exact copy_start c (wCol j) (wSlab j) (inS j) _ _ _ (View.dmaCredit_pos _ (by decide)) _
/-- so does the `r`-th. -/
theorem wIn_step (r : Fin 8) : wHeld c m (pe c r) ⊢ WP (F := F) c (wIn c r) (fun _ => wFly c m (pe c r)) :=
  wIn_at c m (pe c r) _ _ _ (wSrc_eq c r) (wDst_eq c r) (wSem_eq c r) _ _ _

/-- The semaphore of the rows' copy is at level 0, -/
theorem lv_x (c' : Dev nD) : lv ((c' : Thread nD τ), .dma xSem) () = 0 := by
  have h : kindOf (.dma xSem) = none := by decide +kernel
  dsimp only [lv]; rw [h]
/-- and so are those of the weights. -/
theorem lv_in (j : Fin 8) (c' : Dev nD) : lv ((c' : Thread nD τ), .dma (inS j)) () = 0 := by
  dsimp only [lv]; rw [kindOf_in]

/-- Two zero offsets. -/
theorem zero_two : (![0, 0] : Fin 2 → ℕ) = fun _ => 0 := funext fun a => by fin_cases a <;> rfl

/-- The rows are waited for and loaded. -/
theorem xGet_step (l : List (Fin 7)) :
    iprop(levAts L lv ∗ xFly c m ∗ owesS c (owB c l)) ⊢ WP (F := F) c xGet (fun v => iprop(⌜v = xOf m c⌝ ∗ xHeld c m ∗ owesS c (owB c l))) := by
  unfold xGet xFly xHeld
  iintro ⟨#Hl, Hf, HO⟩
  iapply (seq (copy_wait c xM xvM xSem _ _ _ (owB c l) (mayWait_low c xSem lv_x l))) $$ [Hf HO]
  · isplitr; · iexact Hl
    isplitl [Hf] <;> iassumption
  iintro %_ ⟨⟨Hx, Ha⟩, Hv, HO⟩
  unfold WP owns
  icases Hx with ⟨%f, %hf, Hx⟩
  simp only [Prog.lift]
  iapply (wp_load 𝒱₀ (c : Thread nD τ) none Set.univ (m := xvM) (S := xvM.view.set) (by rw [View.set_whole]; exact Finset.subset_univ _)) $$ Hx
  iintro Hx
  rw [wp_ret]; imodintro
  isplitr
  · ipureintro
    exact (Memref.readAt_unit_zero (Elt F) cc0_scratch0 zero_two _ f).trans hf
  isplitr [HO]
  · isplitl [Ha]; · iexact Ha
    isplitl [Hx]; · iapply (pts_any c xvM f) $$ Hx
    iexact Hv
  iexact HO

/-- A column block is waited for and loaded, its places given in another form; -/
theorem wGet_at (j : Fin 8) (src : Memref sig .tc .hbm S1024x128 .f32) (dst : Memref sig .tc .vmem S1024x128 .f32) (q : DmaSem sig)
    (h₁ : src = wCol j) (h₂ : dst = wSlab j) (h₃ : q = inS j) (hsrc : src.view.WordExact) (hdst : dst.view.WordExact)
    {off : Fin 3 → ℕ} (h : off = ![j.val, 0, 0]) (hi : ∀ a, off a + S1x1024x128.size a ≤ S8x1024x128.size a)
    (hl : wvM.view.LoadsAt (Rect.unit (s := S8x1024x128) off S1x1024x128.size hi).toLoadRect) (l : List (Fin 7)) :
    iprop(levAts L lv ∗ wFly c m j ∗ owesS c (owR c l))
      ⊢ WP (F := F) c (Prog.lift (.waitDma2 q src dst hsrc hdst) >>= fun _ =>
          Prog.lift (.load wvM (Rect.unit (s := S8x1024x128) off S1x1024x128.size hi).toLoadRect hl))
        (fun v => iprop(⌜shapeCast S1024x128 v shapeCasts_S1x1024x128_S1024x128 = wOf m c j⌝ ∗ wHeld c m j ∗ owesS c (owR c l))) := by
  subst h₁; subst h₂; subst h₃
  unfold wFly wHeld
  iintro ⟨#Hl, Hf, HO⟩
  iapply (seq (copy_wait c (wCol j) (wSlab j) (inS j) _ _ _ (owR c l) (mayWait_lowR c (inS j) (lv_in j) l))) $$ [Hf HO]
  · isplitr; · iexact Hl
    isplitl [Hf] <;> iassumption
  iintro %_ ⟨⟨Hx, Ha⟩, Hv, HO⟩
  unfold WP
  iapply (wp_wand frame _ Set.univ) $$ [Hx]
  · iapply (slab_load_at c wvM h hi (big_inb j) squeezes_S1x1024x128_S1024x128 shapeCasts_S1x1024x128_S1024x128 hl (wOf m c j)) $$ Hx
  iintro %v ⟨%hv, Hx⟩
  isplitr; · ipureintro; exact hv
  isplitr [HO]
  · isplitl [Ha]; · iexact Ha
    isplitl [Hx]; · iapply (owns_any c (wSlab j)) $$ Hx
    iexact Hv
  iexact HO

/-- so is the `r`-th. -/
theorem wGet_step (r : Fin 8) (l : List (Fin 7)) :
    iprop(levAts L lv ∗ wFly c m (pe c r) ∗ owesS c (owR c l)) ⊢ WP (F := F) c (wGet c r)
      (fun v => iprop(⌜shapeCast S1024x128 v shapeCasts_S1x1024x128_S1024x128 = wOf m c (pe c r)⌝ ∗ wHeld c m (pe c r) ∗ owesS c (owR c l))) :=
  wGet_at c m (pe c r) _ _ _ (wSrc_eq c r) (wDst_eq c r) (wSem_eq c r) _ _ (k0_off4_eq c r) _ _ l

/-- The `r`-th peer's block is computed and stored to be sent. -/
theorem yPut_step (r : Fin 7) (l : List (Fin 7)) :
    iprop(levAts L lv ∗ (wFly c m (pe c r) ∗ yAny c r.succ) ∗ owesS c (owR c l)) ⊢ WP (F := F) c (yPut c (xOf m c) r)
      (fun _ => iprop((wHeld c m (pe c r) ∗ owns (c : Thread nD τ) (ySlab r.succ) fullShare (sent m c (pe c r))) ∗ owesS c (owR c l))) := by
  unfold yPut
  rw [show (yAny c r.succ : sProp 𝕄) = anyAt c (yMem r) by rw [yMem_eq r],
    show (owns (c : Thread nD τ) (ySlab r.succ) fullShare (sent m c (pe c r)) : sProp 𝕄) = owns (c : Thread nD τ) (yMem r) fullShare (sent m c (pe c r)) by rw [yMem_eq r]]
  iintro ⟨#Hl, ⟨Hf, Hy⟩, HO⟩
  have hg : iprop(levAts L lv ∗ wFly c m (pe c r) ∗ owesS c (owR c l)) ⊢ WP c (wGet c r.castSucc)
      (fun v => iprop(⌜shapeCast S1024x128 v shapeCasts_S1x1024x128_S1024x128 = wOf m c (pe c r)⌝ ∗ wHeld c m (pe c r) ∗ owesS c (owR c l))) :=
    wGet_step c m r.castSucc l
  iapply (seq hg) $$ [Hf HO]
  · isplitr; · iexact Hl
    isplitl [Hf] <;> iassumption
  iintro %w ⟨%hw, Hw, HO⟩
  ihave ⟨%X, Hy⟩ := (any_owns c (yMem r)) $$ Hy
  iapply (seq (slab_load c yM (yRect r) (fun _ => rfl) squeezes_S1x128x128_S128x128 shapeCasts_S1x128x128_S128x128 (View.loadsAt_vmem h_S1x128x128) X)) $$ Hy
  iintro %_ ⟨-, Hy⟩
  ihave Hy := (owns_any c (yMem r) X) $$ Hy
  unfold WP
  iapply (wp_wand frame _ Set.univ) $$ [Hy]
  · iapply (slab_store c yM (yRect r) (fun _ => rfl) squeezes_S1x128x128_S128x128 shapeCasts_S1x128x128_S128x128) $$ Hy
  iintro %_ Hy
  isplitr [HO]
  · isplitl [Hw]; · iexact Hw
    have e : shapeCast S128x128 (shapeCast S1x128x128 (sendOf (xOf m c) (shapeCast S1024x128 w shapeCasts_S1x1024x128_S1024x128))
        shapeCasts_S128x128_S1x128x128) shapeCasts_S1x128x128_S128x128 = sent m c (pe c r) :=
      (shapeCast_shapeCast _ _ _).trans (congrArg (sendOf (xOf m c)) hw)
    iapply (Entails.of_eq (congrArg (owns (c : Thread nD τ) (yMem r) fullShare) e)) $$ Hy
  iexact HO

/-- The device's own block is computed and put into the result. -/
theorem ownPut_step :
    iprop(levAts L lv ∗ (wFly c m c ∗ anyAt c (oBlk c)) ∗ owesS c 0) ⊢ WP (F := F) c (ownPut c (xOf m c))
      (fun _ => iprop((wHeld c m c ∗ owns (c : Thread nD τ) (oBlk c) fullShare (placed m c c)) ∗ owesS c 0)) := by
  unfold ownPut
  iintro ⟨#Hl, ⟨Hf, Hy⟩, HO⟩
  iapply (seq (wGet_step c m 7 [])) $$ [Hf HO]
  · isplitr; · iexact Hl
    isplitl [Hf]
    · rw [show pe c (7 : Fin 8).val = c from pe_last c]; iexact Hf
    iexact HO
  rw [show pe c (7 : Fin 8).val = c from pe_last c]
  iintro %w ⟨%hw, Hw, HO⟩
  iapply (seq (rows_load_at c oM (k0_off7_eq c) _ (row_inb c) _)) $$ Hy
  iintro %_ Hy
  unfold WP
  iapply (wp_wand frame _ Set.univ) $$ [Hy]
  · iapply (rows_store_at c oM (k0_off7_eq c) _ (row_inb c)) $$ Hy
  iintro %_ Hy
  isplitr [HO]
  · isplitl [Hw]; · iexact Hw
    rw [hw, show placed m c c = dotOf (xOf m c) (wOf m c c) from if_pos rfl]; iexact Hy
  iexact HO

/-- The `r`-th block to arrive is waited for and put into the result. -/
theorem vPut_step (r : Fin 7) :
    iprop(Ctx m K ∗ ((cred (tallyAt (rcvCell c (sr c r)) () N) ∗ atPos ER (rcvCell c (sr c r)) 0 ∅ 0) ∗ anyAt c (oBlk (sr c r))) ∗ owesS c 0)
      ⊢ WP (F := F) c (vPut c r)
      (fun _ => iprop((atPos ER (rcvCell c (sr c r)) 1 ∅ 0 ∗ rAny c (sr c r) ∗ owns (c : Thread nD τ) (oBlk (sr c r)) fullShare (placed m c (sr c r))) ∗ owesS c 0)) := by
  unfold vPut
  have hs : sr c r ≠ c := sr_ne c r
  iintro ⟨#HC, ⟨Hw, Ho⟩, HO⟩
  iapply (seq (dma_wait_step c m K (some (true, sr c r)) (by rw [dutiesOf_rcv c _ hs]; exact Nat.one_mul N) (vSem c r) (congrArg SemLoc.dma (vSem_eq c r).symm)
    (yMem r) (vMem c r) rfl _ _)) $$ [Hw HO]
  · isplitr; · iexact HC
    isplitl [Hw]; · iexact Hw
    iexact HO
  iintro %_ ⟨⟨Ha, Hp⟩, HO⟩
  have hp : iprop(bigSep (dutiesOf c (some (true, sr c r))) fun d => payOf m c (some (true, sr c r)) d)
      ⊢ owns (c : Thread nD τ) (rSlab (sr c r)) fullShare (sent m (sr c r) c) := by
    rw [dutiesOf_rcv c _ hs, bigSep_singleton]; exact Entails.of_eq rfl
  ihave Hp := hp $$ Hp
  iapply (seq (slab_load_at c rM (show k0_off10 c (wd r) = ![(sr c r).val, 0, 0] from k0_off10_eq c r) _ (sml_inb (sr c r)) squeezes_S1x128x128_S128x128 shapeCasts_S1x128x128_S128x128 _ (sent m (sr c r) c))) $$ Hp
  iintro %v ⟨%hv, Hp⟩
  iapply (seq (rows_load_at c oM (show k0_off11 c (wd r) = ![128 * (sr c r).val, 0] from k0_off11_eq c r) _ (row_inb (sr c r)) _)) $$ Ho
  iintro %_ Ho
  unfold WP
  iapply (wp_wand frame _ Set.univ) $$ [Ho]
  · iapply (rows_store_at c oM (show k0_off11 c (wd r) = ![128 * (sr c r).val, 0] from k0_off11_eq c r) _ (row_inb (sr c r))) $$ Ho
  iintro %_ Ho
  isplitr [HO]
  · isplitl [Ha]; · iexact Ha
    isplitl [Hp]; · iapply (owns_any c (rSlab (sr c r))) $$ Hp
    rw [hv, show placed m c (sr c r) = placeOf (sent m (sr c r) c) from if_neg hs]; iexact Ho
  iexact HO

/-- The `r`-th send is waited for, and its slab is back. -/
theorem yDone_step (r : Fin 7) :
    iprop(Ctx m K ∗ (cred (tallyAt (sndCell c r.succ) () N) ∗ atPos ER (sndCell c r.succ) 0 ∅ 0) ∗ owesS c 0)
      ⊢ WP (F := F) c (yDone c r) (fun _ => iprop((atPos ER (sndCell c r.succ) 1 ∅ 0 ∗ yAny c r.succ) ∗ owesS c 0)) := by
  unfold yDone WP
  have hs : r.succ ≠ 0 := Fin.succ_ne_zero r
  refine (dma_wait_step c m K (some (false, r.succ)) (by rw [dutiesOf_snd c _ hs]; exact Nat.one_mul N) (ySem r) (congrArg SemLoc.dma (ySem_eq r).symm)
    (tMem c) (yMem r) rfl _ _).trans (wp_mono frame _ Set.univ fun _ => ?_)
  rw [dutiesOf_snd c _ hs, bigSep_singleton]
  exact Entails.of_eq rfl

/-- All peers' units are waited for: each hands over its slab for this device's block. -/
theorem barGet_step :
    iprop(Ctx m K ∗ (cred (tallyAt (barCell c) () 7) ∗ atPos ER (barCell c) 0 ∅ 0) ∗ owesS c (owB c []))
      ⊢ WP (F := F) c barGet (fun _ => iprop((atPos ER (barCell c) 1 ∅ 0 ∗ bigSep (Finset.univ.erase c) fun p => rAny p c) ∗ owesS c (owB c []))) :=
  wait_step c m K none (.semWait barS 7) 7 (by revert c; decide) (fun Q => rfl) (owB c []) (mayWait_bar c _)

/-- The `r`-th peer is signalled, and has the slab for its block. -/
theorem sig1_step (r : Fin 7) (l : List (Fin 7)) :
    iprop(Ctx m K ∗ (dutyTok ER (barCell (pe c r)) 0 c ∗ rAny c (pe c r)) ∗ owesS c (owB c (r :: l)))
      ⊢ WP (F := F) c (sig1 c r) (fun _ => owesS c (owB c l)) :=
  sig_step c m K (pe c r) (sigDev c r) (pe_ne c r) (sigDev_eq c r) (owB c l)

/-- The `r`-th peer's block is sent into the slab that it handed over. -/
theorem ySend_step (r : Fin 7) (l : List (Fin 7)) :
    iprop(Ctx m K ∗ (owns (c : Thread nD τ) (ySlab r.succ) fullShare (sent m c (pe c r)) ∗ rAny (pe c r) c
        ∗ dutyTok ER (sndCell c r.succ) 0 0 ∗ dutyTok ER (rcvCell (pe c r) c) 0 0) ∗ owesS c (owR c (r :: l)))
      ⊢ WP (F := F) c (ySend c r) (fun _ => iprop(cred (tallyAt (sndCell c r.succ) () N) ∗ owesS c (owR c l))) :=
  send_step c m K r.succ (Fin.succ_ne_zero r) (pe c r) (sndDev c r) (pe_ne c r) (sndDev_eq c r) (yMem r) (tMem c) (ySem r) (tSem c)
    (yMem_eq r) (tMem_eq c) (ySem_eq r) (tSem_eq c) _ _ _ _ (owR c l)

end Steps

/-! ## The whole body -/

section Whole
variable (c : Dev nD) (m : (ℓ : Loc nD τ sig) → Buf (Elt F) ℓ) (K : Dev nD × Kind' → ℕ)

/-- What device `c` starts the body with, step by step. -/
def bodyStart : sProp 𝕄 :=
  iprop(xHeld c m
    ∗ bigSep Finset.univ (fun r : Fin 8 => wHeld c m (pe c r))
    ∗ bigSep Finset.univ (fun r : Fin 7 => iprop(dutyTok ER (barCell (pe c r)) 0 c ∗ rAny c (pe c r)))
    ∗ bigSep Finset.univ (fun r : Fin 7 => yAny c r.succ)
    ∗ (cred (tallyAt (barCell c) () 7) ∗ atPos ER (barCell c) 0 ∅ 0)
    ∗ bigSep Finset.univ (fun r : Fin 7 => iprop(dutyTok ER (sndCell c r.succ) 0 0 ∗ dutyTok ER (rcvCell (pe c r) c) 0 0))
    ∗ anyAt c (oBlk c)
    ∗ bigSep Finset.univ (fun r : Fin 7 => iprop((cred (tallyAt (rcvCell c (sr c r)) () N) ∗ atPos ER (rcvCell c (sr c r)) 0 ∅ 0) ∗ anyAt c (oBlk (sr c r))))
    ∗ bigSep Finset.univ (fun r : Fin 7 => atPos ER (sndCell c r.succ) 0 ∅ 0)
    ∗ owesS c (O₀ c))

/-- What it ends the body with. -/
def bodyEnd : sProp 𝕄 :=
  iprop(xHeld c m
    ∗ bigSep Finset.univ (fun r : Fin 8 => wHeld c m (pe c r))
    ∗ atPos ER (barCell c) 1 ∅ 0
    ∗ owns (c : Thread nD τ) (oBlk c) fullShare (placed m c c)
    ∗ bigSep Finset.univ (fun r : Fin 7 => iprop(atPos ER (rcvCell c (sr c r)) 1 ∅ 0 ∗ rAny c (sr c r)
        ∗ owns (c : Thread nD τ) (oBlk (sr c r)) fullShare (placed m c (sr c r))))
    ∗ bigSep Finset.univ (fun r : Fin 7 => iprop(atPos ER (sndCell c r.succ) 1 ∅ 0 ∗ yAny c r.succ))
    ∗ owesS c 0)

/-- The eight places are all. -/
theorem all8 : ([0, 1, 2, 3, 4, 5, 6, 7] : List (Fin 8)).toFinset = Finset.univ := by decide
/-- The seven are. -/
theorem all7 : ([0, 1, 2, 3, 4, 5, 6] : List (Fin 7)).toFinset = Finset.univ := by decide
/-- A family over seven: the first, and the rest. -/
theorem star7 (Φ : Fin 7 → sProp 𝕄) : bigSep Finset.univ Φ = iprop(Φ 0 ∗ bigSep ([1, 2, 3, 4, 5, 6] : List (Fin 7)).toFinset Φ) := by
  rw [← all7, List.toFinset_cons]; exact star_insert (by decide)

/-- A family over a type of eight is its value at one element and the family along an injection of seven missing it. -/
theorem star_along {A : Type} [Fintype A] [DecidableEq A] (hA : Fintype.card A = 8) (f : Fin 7 → A) (hf : Function.Injective f) (a : A) (ha : ∀ r, f r ≠ a)
    (Φ : A → sProp 𝕄) : bigSep Finset.univ Φ = iprop(Φ a ∗ bigSep Finset.univ fun r => Φ (f r)) := by
  have h : Finset.univ = insert a (Finset.univ.map ⟨f, hf⟩) := by
    symm; apply Finset.eq_univ_of_card
    rw [Finset.card_insert_of_notMem (by simpa using ha), Finset.card_map, Finset.card_univ, Fintype.card_fin, hA]
  rw [h, star_insert (by simpa using ha), bigSep_map]; rfl
/-- A family over every device but `c`, along seven that differ. -/
theorem star_erase (f : Fin 7 → Dev nD) (hf : Function.Injective f) (hc : ∀ r, f r ≠ c) (Φ : Dev nD → sProp 𝕄) :
    bigSep (Finset.univ.erase c) Φ = bigSep Finset.univ fun r => Φ (f r) := by
  have h : Finset.univ.erase c = Finset.univ.map ⟨f, hf⟩ := by
    symm; apply Finset.eq_of_subset_of_card_le
    · intro x hx; obtain ⟨r, -, rfl⟩ := Finset.mem_map.mp hx; exact Finset.mem_erase.mpr ⟨hc r, Finset.mem_univ _⟩
    · rw [Finset.card_map, Finset.card_erase_of_mem (Finset.mem_univ _), Finset.card_univ, Finset.card_univ, Fintype.card_fin, Fintype.card_fin]; exact le_refl 7
  rw [h, bigSep_map]; rfl

/-- The loops. -/
theorem wIn_loop : iprop(bigSep Finset.univ fun r : Fin 8 => wHeld c m (pe c r))
    ⊢ WP (F := F) c (forL (wIn c) [0, 1, 2, 3, 4, 5, 6, 7]) (fun _ => iprop(bigSep Finset.univ fun r : Fin 8 => wFly c m (pe c r))) := by
  have h := wp_forL (c := c) (wIn (F := F) c) iprop(emp) (fun r : Fin 8 => wHeld c m (pe c r)) (fun r => wFly c m (pe c r)) (fun _ => iprop(emp))
    (fun a l => by
      iintro ⟨-, H, -⟩
      unfold WP
      iapply (wp_wand frame _ Set.univ) $$ [H]; · iapply (wIn_step c m a) $$ H
      iintro %_ H
      isplitl [H]; · iexact H
      iempintro) [0, 1, 2, 3, 4, 5, 6, 7] (by decide)
  rw [all8] at h
  iintro H
  unfold WP
  iapply (wp_wand frame _ Set.univ) $$ [H]
  · iapply h
    isplitr; · iempintro
    isplitl [H]; · iexact H
    iempintro
  iintro %_ ⟨H, -⟩; iexact H

/-- Every peer is signalled. -/
theorem sig1_loop : iprop(Ctx m K ∗ bigSep Finset.univ (fun r : Fin 7 => iprop(dutyTok ER (barCell (pe c r)) 0 c ∗ rAny c (pe c r))) ∗ owesS c (O₀ c))
    ⊢ WP (F := F) c (forL (sig1 c) [0, 1, 2, 3, 4, 5, 6]) (fun _ => owesS c (owB c [])) := by
  have h := wp_forL (c := c) (sig1 (F := F) c) (Ctx m K) (fun r : Fin 7 => iprop(dutyTok ER (barCell (pe c r)) 0 c ∗ rAny c (pe c r))) (fun _ => iprop(emp))
    (fun l => owesS c (owB c l))
    (fun a l => (sig1_step c m K a l).trans (wp_mono frame _ Set.univ fun _ => by
      iintro H; isplitr; · iempintro
      iexact H)) [0, 1, 2, 3, 4, 5, 6] (by decide)
  rw [all7] at h
  exact h.trans (wp_mono frame _ Set.univ fun _ => by iintro ⟨-, H⟩; iexact H)

/-- A peer's block computed and sent. -/
theorem peer_step (r : Fin 7) (l : List (Fin 7)) :
    iprop(Ctx m K ∗ (wFly c m (pe c r) ∗ yAny c r.succ ∗ rAny (pe c r) c ∗ dutyTok ER (sndCell c r.succ) 0 0 ∗ dutyTok ER (rcvCell (pe c r) c) 0 0)
        ∗ owesS c (owR c (r :: l)))
      ⊢ WP (F := F) c (yPut c (xOf m c) r >>= fun _ => ySend c r)
          (fun _ => iprop((wHeld c m (pe c r) ∗ cred (tallyAt (sndCell c r.succ) () N)) ∗ owesS c (owR c l))) := by
  iintro ⟨#HC, ⟨Hw, Hy, Hr, Ht⟩, HO⟩
  iapply (seq (yPut_step c m r (r :: l))) $$ [Hw Hy HO]
  · isplitr; · iapply (Ctx_lev m K); iexact HC
    isplitr [HO]
    · isplitl [Hw] <;> iassumption
    iexact HO
  iintro %_ ⟨⟨Hw, Hy⟩, HO⟩
  unfold WP
  iapply (wp_wand frame _ Set.univ) $$ [Hy Hr Ht HO]
  · iapply (ySend_step c m K r l)
    isplitr; · iexact HC
    isplitr [HO]
    · isplitl [Hy]; · iexact Hy
      isplitl [Hr] <;> iassumption
    iexact HO
  iintro %_ ⟨Hc, HO⟩
  isplitr [HO]
  · isplitl [Hw] <;> iassumption
  iexact HO

/-- Every block is received. -/
theorem vPut_loop : iprop(Ctx m K ∗ bigSep Finset.univ (fun r : Fin 7 =>
        iprop((cred (tallyAt (rcvCell c (sr c r)) () N) ∗ atPos ER (rcvCell c (sr c r)) 0 ∅ 0) ∗ anyAt c (oBlk (sr c r)))) ∗ owesS c 0)
    ⊢ WP (F := F) c (forL (vPut c) [0, 1, 2, 3, 4, 5, 6]) (fun _ => iprop(bigSep Finset.univ (fun r : Fin 7 =>
        iprop(atPos ER (rcvCell c (sr c r)) 1 ∅ 0 ∗ rAny c (sr c r) ∗ owns (c : Thread nD τ) (oBlk (sr c r)) fullShare (placed m c (sr c r)))) ∗ owesS c 0)) := by
  have h := wp_forL (c := c) (vPut (F := F) c) (Ctx m K) _ _ (fun _ => owesS c 0) (fun a _ => vPut_step c m K a) [0, 1, 2, 3, 4, 5, 6] (by decide)
  rw [all7] at h; exact h

/-- Every send is waited for. -/
theorem yDone_loop : iprop(Ctx m K ∗ bigSep Finset.univ (fun r : Fin 7 => iprop(cred (tallyAt (sndCell c r.succ) () N) ∗ atPos ER (sndCell c r.succ) 0 ∅ 0)) ∗ owesS c 0)
    ⊢ WP (F := F) c (forL (yDone c) [0, 1, 2, 3, 4, 5, 6])
        (fun _ => iprop(bigSep Finset.univ (fun r : Fin 7 => iprop(atPos ER (sndCell c r.succ) 1 ∅ 0 ∗ yAny c r.succ)) ∗ owesS c 0)) := by
  have h := wp_forL (c := c) (yDone (F := F) c) (Ctx m K) _ _ (fun _ => owesS c 0) (fun a _ => yDone_step c m K a) [0, 1, 2, 3, 4, 5, 6] (by decide)
  rw [all7] at h; exact h

/-- The blocks of all peers but the first are computed and sent. -/
theorem peer_loop : iprop(Ctx m K ∗ bigSep ([1, 2, 3, 4, 5, 6] : List (Fin 7)).toFinset (fun r : Fin 7 =>
        iprop(wFly c m (pe c r) ∗ yAny c r.succ ∗ rAny (pe c r) c ∗ dutyTok ER (sndCell c r.succ) 0 0 ∗ dutyTok ER (rcvCell (pe c r) c) 0 0))
        ∗ owesS c (owR c [1, 2, 3, 4, 5, 6]))
    ⊢ WP (F := F) c (forL (fun r => yPut c (xOf m c) r >>= fun _ => ySend c r) [1, 2, 3, 4, 5, 6])
        (fun _ => iprop(bigSep ([1, 2, 3, 4, 5, 6] : List (Fin 7)).toFinset (fun r : Fin 7 => iprop(wHeld c m (pe c r) ∗ cred (tallyAt (sndCell c r.succ) () N)))
          ∗ owesS c 0)) :=
  wp_forL (c := c) _ (Ctx m K) _ _ (fun l => owesS c (owR c l)) (fun a l => peer_step c m K a l) [1, 2, 3, 4, 5, 6] (by decide)

/-- None of the first seven places is the last. -/
theorem castSucc_ne (r : Fin 7) : r.castSucc ≠ (7 : Fin 8) := by revert r; decide

/-- The body, from start to end. -/
theorem body_run : iprop(Ctx m K ∗ bodyStart c m) ⊢ WP (F := F) c (prog c) (fun _ => bodyEnd c m) := by
  have hW (Φ : Fin 8 → sProp 𝕄) : bigSep Finset.univ Φ = iprop(Φ 7 ∗ bigSep Finset.univ fun r : Fin 7 => Φ r.castSucc) :=
    star_along rfl Fin.castSucc (Fin.castSucc_injective 7) 7 castSucc_ne Φ
  unfold bodyStart bodyEnd prog
  iintro ⟨#HC, Hx, Hw, Hsg, Hy, Hb, Ht, Ho, Hv, Hs, HO⟩
  ihave #Hl := (Ctx_lev m K) $$ HC
  iapply (seq (xIn_step c m)) $$ Hx
  iintro %_ Hx
  iapply (seq (wIn_loop c m)) $$ Hw
  iintro %_ Hw
  iapply (seq (sig1_loop c m K)) $$ [Hsg HO]
  · isplitr; · iexact HC
    isplitl [Hsg] <;> iassumption
  iintro %_ HO
  iapply (seq (xGet_step c m [])) $$ [Hx HO]
  · isplitr; · iexact Hl
    isplitl [Hx] <;> iassumption
  iintro %x ⟨%hx, Hx, HO⟩
  subst hx
  ihave ⟨Hw7, Hw⟩ := (Entails.of_eq (hW _)) $$ Hw
  ihave ⟨Hw0, Hw⟩ := (Entails.of_eq (star7 _)) $$ Hw
  ihave ⟨Hy0, Hy⟩ := (Entails.of_eq (star7 _)) $$ Hy
  ihave ⟨Ht0, Ht⟩ := (Entails.of_eq (star7 _)) $$ Ht
  iapply (seq (yPut_step c m 0 [0, 1, 2, 3, 4, 5, 6])) $$ [Hw0 Hy0 HO]
  · isplitr; · iexact Hl
    isplitr [HO]
    · isplitl [Hw0]; · iexact Hw0
      iexact Hy0
    iexact HO
  iintro %_ ⟨⟨Hw0, Hy0⟩, HO⟩
  iapply (seq (barGet_step c m K)) $$ [Hb HO]
  · isplitr; · iexact HC
    isplitl [Hb]; · iexact Hb
    iexact HO
  iintro %_ ⟨⟨Hb, Hr⟩, HO⟩
  ihave Hr := (Entails.of_eq (star_erase c (fun r => pe c r) (pe_inj c) (pe_ne c) _)) $$ Hr
  ihave ⟨Hr0, Hr⟩ := (Entails.of_eq (star7 _)) $$ Hr
  iapply (seq (ySend_step c m K 0 [1, 2, 3, 4, 5, 6])) $$ [Hy0 Hr0 Ht0 HO]
  · isplitr; · iexact HC
    isplitr [HO]
    · isplitl [Hy0]; · iexact Hy0
      isplitl [Hr0]; · iexact Hr0
      iexact Ht0
    iexact HO
  iintro %_ ⟨Hc0, HO⟩
  iapply (seq (peer_loop c m K)) $$ [Hw Hy Hr Ht HO]
  · isplitr; · iexact HC
    isplitr [HO]
    · simp only [bigSep_sep']
      isplitl [Hw]; · iexact Hw
      isplitl [Hy]; · iexact Hy
      isplitl [Hr]; · iexact Hr
      iexact Ht
    iexact HO
  iintro %_ ⟨Hwc, HO⟩
  iapply (seq (ownPut_step c m)) $$ [Hw7 Ho HO]
  · isplitr; · iexact Hl
    isplitr [HO]
    · isplitl [Hw7]; · iapply (Entails.of_eq (congrArg (wFly c m) (show pe c (7 : Fin 8).val = c from pe_last c))) $$ Hw7
      iexact Ho
    iexact HO
  iintro %_ ⟨⟨Hw7, Ho⟩, HO⟩
  iapply (seq (vPut_loop c m K)) $$ [Hv HO]
  · isplitr; · iexact HC
    isplitl [Hv] <;> iassumption
  iintro %_ ⟨Hv, HO⟩
  ihave ⟨Hw, Hc⟩ := (Entails.of_eq (bigSep_sep' _ _ _)) $$ Hwc
  unfold WP
  iapply (wp_wand frame _ Set.univ) $$ [Hc0 Hc Hs HO]
  · iapply (yDone_loop c m K)
    isplitr; · iexact HC
    isplitr [HO]
    · rw [bigSep_sep']
      isplitr [Hs]
      · rw [star7]
        isplitl [Hc0]; · iexact Hc0
        iexact Hc
      · iexact Hs
    iexact HO
  iintro %_ ⟨Hs, HO⟩
  isplitl [Hx]; · iexact Hx
  isplitl [Hw7 Hw0 Hw]
  · rw [hW]
    isplitl [Hw7]; · iapply (Entails.of_eq (congrArg (wHeld c m) (show c = pe c (7 : Fin 8).val from (pe_last c).symm))) $$ Hw7
    rw [star7]
    isplitl [Hw0]; · iexact Hw0
    iexact Hw
  isplitl [Hb]; · iexact Hb
  isplitl [Ho]; · iexact Ho
  isplitl [Hv]; · iexact Hv
  isplitl [Hs] <;> iassumption

end Whole

end Cert.KernelIdeal
-- ==== Proof.KernelIdeal.Split.lean ====
/- Whole buffers against the slabs and blocks the body works on: what a device's holdings split into before the body,
   and what they join back to after it. -/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.Launch
public import Idealize.ShloMosaic.Lib.Tactic

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring

variable {F : FTy → Type} [FloatOps F]

local notation "𝕄" => MT nD τ sig Unit (Elt F) ℕ UU ℕ

/-! ## A buffer and its slices -/

section Slices
variable (c : Dev nD) {sp : Space} {sh : Shape} {e : EltTy} (M : Memref sig .tc sp sh e) (r : Fin 8 → Rect sh) (hr : ∀ j a, (r j).stride a = 1)
  (hd : ∀ j j', j ≠ j' → Disjoint (r j).set (r j').set) (hcov : Finset.univ.biUnion (fun j => (r j).set) = Finset.univ)
include hd hcov

/-- A buffer at some contents is each slice of a disjoint covering family at those contents. -/
theorem pts_slices (g : M.view.ty.Contents (Elt F)) :
    (M.view.loc (c : Thread nD τ) ↦[M.view.set]{fullShare} g : sProp 𝕄)
      = bigSep Finset.univ fun j => (M.slice (r j) (hr j)).view.loc (c : Thread nD τ) ↦[(M.slice (r j) (hr j)).view.set]{fullShare} g := by
  rw [pointsTo_rects (c : Thread nD τ) M fullShare r hr hd hcov g]
  exact bigSep_congr fun j _ => owns_slice_read (c : Thread nD τ) M fullShare (r j) (hr j) g

omit hd hcov in
/-- Slices at one buffer's contents are slices at some contents. -/
theorem any_of (f : M.view.ty.Contents (Elt F)) :
    (bigSep Finset.univ fun j => (M.slice (r j) (hr j)).view.loc (c : Thread nD τ) ↦[(M.slice (r j) (hr j)).view.set]{fullShare} f : sProp 𝕄)
      ⊢ bigSep Finset.univ fun j => anyAt c (M.slice (r j) (hr j)) :=
  bigSep_mono fun j _ => pts_any c (M.slice (r j) (hr j)) f

/-- A memref at some contents is its slices so, -/
theorem any_slices : (anyAt c M : sProp 𝕄) ⊢ bigSep Finset.univ fun j => anyAt c (M.slice (r j) (hr j)) := by
  iintro H
  ihave H := (show anyAt c M ⊢ iprop(∃ f, M.view.loc (c : Thread nD τ) ↦[M.view.set]{fullShare} f) from .rfl) $$ H
  icases H with ⟨%f, H⟩
  ihave H := (Entails.of_eq (pts_slices c M r hr hd hcov f)) $$ H
  iapply (any_of c M r hr f) $$ H

/-- and slices so are the memref. -/
theorem any_join : (bigSep Finset.univ fun j => anyAt c (M.slice (r j) (hr j)) : sProp 𝕄) ⊢ anyAt c M := by
  have hset : (Finset.univ : Finset (Fin 8)).biUnion (fun j => (M.view.slice (r j)).set) = M.view.set := by
    rw [show (fun j => (M.view.slice (r j)).set) = fun j => (r j).set.map M.view.emb from funext fun j => View.set_slice ..]
    ext i; constructor
    · intro hi
      obtain ⟨j, -, hi⟩ := Finset.mem_biUnion.mp hi
      obtain ⟨x, -, rfl⟩ := Finset.mem_map.mp hi
      exact Finset.mem_map_of_mem _ (Finset.mem_univ x)
    · intro hi
      obtain ⟨x, -, rfl⟩ := Finset.mem_map.mp hi
      obtain ⟨j, hj, hx⟩ := Finset.mem_biUnion.mp (hcov.symm ▸ Finset.mem_univ x)
      exact Finset.mem_biUnion.mpr ⟨j, hj, Finset.mem_map_of_mem _ hx⟩
  unfold anyAt
  exact pointsTo_sub_blocks_join_exists (ℓ := M.view.loc (c : Thread nD τ)) (fun j => (M.view.slice (r j)).set)
    (fun j j' h => by rw [View.set_slice, View.set_slice]; exact (Finset.disjoint_map _).mpr (hd j j' h)) M.view.set hset (fun _ => Classical.arbitrary _)

end Slices

/-- Seen at another shape of as many elements, a memref holds what it held. -/
theorem any_squeeze (c : Dev nD) {sp : Space} {sh sh' : Shape} {e : EltTy} (M : Memref sig .tc sp sh e) (h : sh.Squeezes sh') :
    (anyAt c (M.squeeze sh' h) : sProp 𝕄) = anyAt c M := by
  have hs : (M.squeeze sh' h).view.set = M.view.set := View.set_reshape (v := M.view) _
  unfold anyAt
  rw [hs]

/-! ## The four families -/

/-- Column blocks are disjoint -/
theorem col_disj (j j' : Fin 8) (h : j ≠ j') : Disjoint (colR j).set (colR j').set :=
  lead_disjoint (s := S1024x1024) (1 : Fin 2) 128 (fun j : Fin 8 => ![0, 128 * j.val]) S1024x128.size col_inb (fun _ => rfl) rfl j j' h
/-- and are all of the weights. -/
theorem col_cover : Finset.univ.biUnion (fun j => (colR j).set) = Finset.univ :=
  lead_cover (s := S1024x1024) (1 : Fin 2) 128 (fun j : Fin 8 => ![0, 128 * j.val]) S1024x128.size col_inb (fun _ => rfl)
    (fun b a ha => by fin_cases a; · rfl
                      · exact absurd rfl ha) rfl
    (fun a ha => by fin_cases a; · rfl
                    · exact absurd rfl ha) rfl
/-- Row blocks are disjoint -/
theorem row_disj (j j' : Fin 8) (h : j ≠ j') : Disjoint (rowR j).set (rowR j').set :=
  lead_disjoint (s := S1024x128) (0 : Fin 2) 128 (fun j : Fin 8 => ![128 * j.val, 0]) S128x128.size row_inb (fun _ => rfl) rfl j j' h
/-- and are all of the result. -/
theorem row_cover : Finset.univ.biUnion (fun j => (rowR j).set) = Finset.univ :=
  lead_cover (s := S1024x128) (0 : Fin 2) 128 (fun j : Fin 8 => ![128 * j.val, 0]) S128x128.size row_inb (fun _ => rfl)
    (fun b a ha => by fin_cases a; · exact absurd rfl ha
                      · rfl) rfl
    (fun a ha => by fin_cases a; · exact absurd rfl ha
                    · rfl) rfl
/-- Slabs of the weights copied in are disjoint -/
theorem big_disj (j j' : Fin 8) (h : j ≠ j') : Disjoint (bigR j).set (bigR j').set :=
  lead_disjoint (s := S8x1024x128) (0 : Fin 3) 1 (fun j : Fin 8 => ![j.val, 0, 0]) S1x1024x128.size big_inb (fun b => (Nat.one_mul b.val).symm) rfl j j' h
/-- and are all of the buffer. -/
theorem big_cover : Finset.univ.biUnion (fun j => (bigR j).set) = Finset.univ :=
  lead_cover (s := S8x1024x128) (0 : Fin 3) 1 (fun j : Fin 8 => ![j.val, 0, 0]) S1x1024x128.size big_inb (fun b => (Nat.one_mul b.val).symm)
    (fun b a ha => by fin_cases a; · exact absurd rfl ha
                      · rfl
                      · rfl) rfl
    (fun a ha => by fin_cases a; · exact absurd rfl ha
                    · rfl
                    · rfl) rfl
/-- Slabs of blocks are disjoint -/
theorem sml_disj (j j' : Fin 8) (h : j ≠ j') : Disjoint (smlR j).set (smlR j').set :=
  lead_disjoint (s := S8x128x128) (0 : Fin 3) 1 (fun j : Fin 8 => ![j.val, 0, 0]) S1x128x128.size sml_inb (fun b => (Nat.one_mul b.val).symm) rfl j j' h
/-- and are all of the buffer. -/
theorem sml_cover : Finset.univ.biUnion (fun j => (smlR j).set) = Finset.univ :=
  lead_cover (s := S8x128x128) (0 : Fin 3) 1 (fun j : Fin 8 => ![j.val, 0, 0]) S1x128x128.size sml_inb (fun b => (Nat.one_mul b.val).symm)
    (fun b a ha => by fin_cases a; · exact absurd rfl ha
                      · rfl
                      · rfl) rfl
    (fun a ha => by fin_cases a; · exact absurd rfl ha
                    · rfl
                    · rfl) rfl

section Families
variable (c : Dev nD) (m : (ℓ : Loc nD τ sig) → Buf (Elt F) ℓ)

/-- The weights are their eight column blocks. -/
theorem weights_eq : (((c : Thread nD τ).loc main_arg1) ↦{fullShare} m ((c : Thread nD τ).loc main_arg1) : sProp 𝕄)
    = bigSep Finset.univ fun j : Fin 8 => (wCol j).view.loc (c : Thread nD τ) ↦[(wCol j).view.set]{fullShare} m ((c : Thread nD τ).loc main_arg1) := by
  rw [← pts_slices c wM colR (fun _ _ => rfl) col_disj col_cover (m ((c : Thread nD τ).loc main_arg1)), show wM.view.set = Finset.univ from View.set_whole _]

/-- The buffer of weights copied in is its slabs -/
theorem wv_split : (anyAt c wvM : sProp 𝕄) ⊢ bigSep Finset.univ fun j : Fin 8 => anyAt c (wSlab j) :=
  (any_slices c wvM bigR (fun _ _ => rfl) big_disj big_cover).trans (Entails.of_eq (bigSep_congr fun j _ => (any_squeeze c _ _).symm))
/-- and back; -/
theorem wv_join : (bigSep Finset.univ fun j : Fin 8 => anyAt c (wSlab j) : sProp 𝕄) ⊢ anyAt c wvM :=
  (Entails.of_eq (bigSep_congr fun j _ => any_squeeze c _ _)).trans (any_join c wvM bigR (fun _ _ => rfl) big_disj big_cover)
/-- so is the send buffer -/
theorem y_split : (anyAt c yM : sProp 𝕄) ⊢ bigSep Finset.univ fun j : Fin 8 => yAny c j :=
  (any_slices c yM smlR (fun _ _ => rfl) sml_disj sml_cover).trans (Entails.of_eq (bigSep_congr fun j _ => (any_squeeze c _ _).symm))
/-- and back; -/
theorem y_join : (bigSep Finset.univ fun j : Fin 8 => yAny c j : sProp 𝕄) ⊢ anyAt c yM :=
  (Entails.of_eq (bigSep_congr fun j _ => any_squeeze c _ _)).trans (any_join c yM smlR (fun _ _ => rfl) sml_disj sml_cover)
/-- the receive buffer -/
theorem r_split : (anyAt c rM : sProp 𝕄) ⊢ bigSep Finset.univ fun j : Fin 8 => rAny c j :=
  (any_slices c rM smlR (fun _ _ => rfl) sml_disj sml_cover).trans (Entails.of_eq (bigSep_congr fun j _ => (any_squeeze c _ _).symm))
/-- and back; -/
theorem r_join : (bigSep Finset.univ fun j : Fin 8 => rAny c j : sProp 𝕄) ⊢ anyAt c rM :=
  (Entails.of_eq (bigSep_congr fun j _ => any_squeeze c _ _)).trans (any_join c rM smlR (fun _ _ => rfl) sml_disj sml_cover)
/-- the result is its row blocks. -/
theorem o_split : (anyAt c oM : sProp 𝕄) ⊢ bigSep Finset.univ fun j : Fin 8 => anyAt c (oBlk j) :=
  any_slices c oM rowR (fun _ _ => rfl) row_disj row_cover

/-- A whole scratch buffer at contents nobody names, as the launch states it. -/
theorem any_whole (b : Ref sig .tc) :
    (anyAt c (Memref.whole b) : sProp 𝕄) = iprop(∃ f, ((c : Thread nD τ).loc b) ↦{fullShare} f) := by
  unfold anyAt; rw [show (Memref.whole b).view.set = Finset.univ from View.set_whole _]

/-! ## The result, row block by row block -/

/-- Row block `i / 128` of device `c`'s result is what device `i / 128` contributes. -/
def outT : FVec F S1024x128 .f32 := fun i =>
  placed m c (⟨(i (0 : Fin 2)).val / 128, Nat.div_lt_of_lt_mul (i (0 : Fin 2)).isLt⟩ : Fin 8)
    (fun a => ⟨(![(i (0 : Fin 2)).val % 128, (i (1 : Fin 2)).val] : Fin 2 → ℕ) a, by
      fin_cases a
      · exact Nat.mod_lt _ (by decide)
      · exact (i (1 : Fin 2)).isLt⟩)

/-- Row block `j` of the result is what device `j` contributes. -/
theorem outT_row (j : Fin 8) (i : S128x128.Idx) : outT c m ((rowR j).emb i) = placed m c j i := by
  have h0 : (((rowR j).emb i) (0 : Fin 2)).val = 128 * j.val + (i (0 : Fin 2)).val := by
    rw [Rect.emb_apply]; show 128 * j.val + 1 * (i (0 : Fin 2)).val = _; omega
  have h1 : (((rowR j).emb i) (1 : Fin 2)).val = (i (1 : Fin 2)).val := by
    rw [Rect.emb_apply]; show 0 + 1 * (i (1 : Fin 2)).val = _; omega
  have hi : (i (0 : Fin 2)).val < 128 := (i (0 : Fin 2)).isLt
  unfold outT
  congr 1
  · exact Fin.ext (by show (((rowR j).emb i) (0 : Fin 2)).val / 128 = j.val; rw [h0]; omega)
  · funext a
    apply Fin.ext
    fin_cases a
    · show (((rowR j).emb i) (0 : Fin 2)).val % 128 = (i (0 : Fin 2)).val; rw [h0]; omega
    · exact h1

/-- Row blocks at an array's blocks are the array; -/
theorem rows_join (X : S1024x128.Idx → Elt F .f32) (P : Fin 8 → S128x128.Idx → Elt F .f32) (h : ∀ j i, X ((rowR j).emb i) = P j i) :
    (bigSep Finset.univ fun j : Fin 8 => owns (c : Thread nD τ) (oBlk j) fullShare (P j) : sProp 𝕄) ⊢ owns (c : Thread nD τ) oM fullShare X := by
  have hP : P = fun j i => X ((rowR j).emb i) := funext fun j => funext fun i => (h j i).symm
  subst hP
  exact owns_of_rects (c : Thread nD τ) oM fullShare rowR (fun _ _ => rfl) row_disj row_cover X
/-- those placed are the result. -/
theorem o_join : (bigSep Finset.univ fun j : Fin 8 => owns (c : Thread nD τ) (oBlk j) fullShare (placed m c j) : sProp 𝕄)
    ⊢ owns (c : Thread nD τ) oM fullShare (outT c m) := rows_join c (outT c m) (fun j => placed m c j) (outT_row c m)

end Families

end Cert.KernelIdeal
-- ==== Proof.KernelIdeal.Launch.lean ====
/- The launch: what each device is dealt, that it starts the body with it, what the body leaves it, and the run of the
   whole mesh. -/
module

public import proofs.«01_k».proof.Proof.KernelIdeal.Split
public import Idealize.ShloMosaic.Lib.Pipeline.CollectiveSegs
public import Idealize.ShloMosaic.Lib.Pipeline.ValueKit

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Families over the semaphores of a device -/

/-- A family over an optional index. -/
theorem star_option {A : Type} [Fintype A] [DecidableEq A] (Φ : Option A → sProp 𝕄) :
    bigSep Finset.univ Φ = iprop(Φ none ∗ bigSep Finset.univ fun a => Φ (some a)) := by
  have h : (Finset.univ : Finset (Option A)) = insert none (Finset.univ.map Function.Embedding.some) := by
    ext x; rcases x with _ | x <;> simp
  rw [h, star_insert (by simp), bigSep_map]; rfl
/-- One over two. -/
theorem star_bool (Φ : Bool → sProp 𝕄) : bigSep Finset.univ Φ = iprop(Φ false ∗ Φ true) :=
  bigSep_univ_eq_bigSepL [false, true] (by decide) (by decide) Φ
/-- One over three. -/
theorem star_three (Φ : Fin 3 → sProp 𝕄) : bigSep Finset.univ Φ = iprop(Φ 0 ∗ Φ 1 ∗ Φ 2) :=
  bigSep_univ_eq_bigSepL [0, 1, 2] (by decide) (by decide) Φ
/-- A family over a device's cells: the barrier's, the sends', the blocks'. -/
theorem star_kinds (Φ : Kind' → sProp 𝕄) : bigSep Finset.univ Φ
    = iprop(Φ none ∗ (bigSep Finset.univ fun j : Fin 8 => Φ (some (false, j))) ∗ bigSep Finset.univ fun j : Fin 8 => Φ (some (true, j))) := by
  rw [star_option, bigSep_univ_prod, star_bool]
/-- What is known for good goes to every member of a family. -/
theorem star_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The kernel's own semaphores: the activations' copy, the weights' copies, the sends, the blocks. -/
def osem : Option (Fin 3 × Fin 8) → SemLoc sig
  | none => .dma xSem
  | some (0, j) => .dma (inS j)
  | some (1, j) => .dma (sndS j)
  | some (2, j) => .dma (rcvS j)

/-- The kernel's own semaphores are none of the pipeline's. -/
theorem ownSemFacts : Pipeline.OwnSemFacts cfg0.spec osem := by decide +kernel

/-- The semaphores of the copies within a device, at zero. -/
def localSems (c : Dev nD) : sProp 𝕄 :=
  iprop(semVal ((c : Thread nD τ), .dma xSem) 0 ∗ bigSep Finset.univ fun j : Fin 8 => semVal ((c : Thread nD τ), .dma (inS j)) 0)

/-- They are the rows', the weights', the sends' and the blocks'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma xSem) 0 ∗ (bigSep Finset.univ fun j : Fin 8 => semVal ((c : Thread nD τ), .dma (inS j)) 0)
        ∗ (bigSep Finset.univ fun j : Fin 8 => semVal (sndCell c j) 0) ∗ bigSep Finset.univ fun j : Fin 8 => semVal (rcvCell c j) 0) := by
  unfold Pipeline.ownSems0
  rw [star_option, bigSep_univ_prod, star_three]; rfl
/-- The one other is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
/-- All semaphores are those of the copies within the device and those that others raise. -/
theorem sems_split (c : Dev nD) :
    iprop(Pipeline.ownSems0 (Ix := Unit) (Name := ℕ) (U := UU) (Lvl := ℕ) (Val := Elt F) (τ := τ) osem c ∗ unscopedSems0 c)
      ⊢ iprop(localSems c ∗ bigSep Finset.univ fun k : Kind' => semVal (kcell (c, k)) 0 : sProp 𝕄) := by
  rw [ownSems0_eq, unscopedSems0_eq, star_kinds]
  unfold localSems
  iintro ⟨⟨Hx, Hi, Hs, Hr⟩, Hb⟩
  isplitl [Hx Hi]
  · isplitl [Hx] <;> iassumption
  isplitl [Hb]; · iexact Hb
  isplitl [Hs]; · iexact Hs
  iexact Hr

/-! ## What a device is dealt -/

/-- The tokens of the duties device `c` pays: its units at the barriers, its sends' completions, its blocks' landings. -/
def payToks (c : Dev nD) : sProp 𝕄 :=
  iprop((bigSep Finset.univ fun d : Dev nD => dutyTok ER (barCell d) 0 c)
    ∗ (bigSep Finset.univ fun j : Fin 8 => dutyTok ER (sndCell c j) 0 0)
    ∗ bigSep Finset.univ fun d : Dev nD => dutyTok ER (rcvCell d c) 0 0)
/-- Its cells at their first round. -/
def firsts (c : Dev nD) : sProp 𝕄 := bigSep Finset.univ fun k : Kind' => atPos ER (kcell (c, k)) 0 ∅ 0
/-- The credits of its waits on other devices. -/
def creds (c : Dev nD) : sProp 𝕄 :=
  iprop(cred (tallyAt (barCell c) () 7) ∗ bigSep Finset.univ fun r : Fin 7 => cred (tallyAt (rcvCell c (sr c r)) () N))
/-- The two arguments. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))
/-- The scratch buffers, at contents nobody names. -/
def scratch (c : Dev nD) : sProp 𝕄 := iprop(anyAt c xvM ∗ anyAt c wvM ∗ anyAt c yM ∗ anyAt c rM)

/-- The scratch is the buffers that the pipeline does not stage. -/
theorem scratch_eq (c : Dev nD) : (scratch c : sProp 𝕄) = Pipeline.scopedRest cfg0.spec c := by
  rw [scopedRest0_eq]; unfold scratch
  rw [any_whole c cc0_scratch0, any_whole c cc0_scratch1, any_whole c cc0_scratch2, any_whole c cc0_scratch3]

/-- No successor is zero. -/
theorem fin_succ_ne (r : Fin 7) : r.succ ≠ (0 : Fin 8) := Fin.succ_ne_zero r

section Start
variable (c : Dev nD)

/-- A family over the devices: `c`, and those after it; -/
theorem along_pe (Φ : Dev nD → sProp 𝕄) : bigSep Finset.univ Φ = iprop(Φ c ∗ bigSep Finset.univ fun r : Fin 7 => Φ (pe c r)) :=
  star_along rfl (fun r : Fin 7 => pe c r) (pe_inj c) c (pe_ne c) Φ
/-- `c`, and those before it. -/
theorem along_sr (Φ : Dev nD → sProp 𝕄) : bigSep Finset.univ Φ = iprop(Φ c ∗ bigSep Finset.univ fun r : Fin 7 => Φ (sr c r)) :=
  star_along rfl (fun r : Fin 7 => sr c r) (sr_inj c) c (sr_ne c) Φ
/-- A family over eight: the first, and the successors. -/
theorem along_succ (Φ : Fin 8 → sProp 𝕄) : bigSep Finset.univ Φ = iprop(Φ 0 ∗ bigSep Finset.univ fun r : Fin 7 => Φ r.succ) :=
  star_along rfl Fin.succ (Fin.succ_injective 7) 0 fin_succ_ne Φ
/-- A family over the devices, from the one after `c` on. -/
theorem along_rot (Φ : Dev nD → sProp 𝕄) : bigSep Finset.univ Φ = bigSep Finset.univ fun r : Fin 8 => Φ (pe c r) :=
  bigSep_univ_equiv (rot c) Φ

/-- What the body does not touch: the send slab and semaphore it has no use for, and those of its own place. -/
def spare : sProp 𝕄 :=
  iprop(atPos ER (sndCell c 0) 0 ∅ 0 ∗ atPos ER (rcvCell c c) 0 ∅ 0 ∗ rAny c c ∗ yAny c 0)

/-- Weights, slabs and semaphores are what the eight copies start from, -/
theorem w_holdings : iprop((((c : Thread nD τ).loc main_arg1) ↦{fullShare} m ((c : Thread nD τ).loc main_arg1)) ∗ anyAt c wvM
      ∗ bigSep Finset.univ fun j : Fin 8 => semVal ((c : Thread nD τ), .dma (inS j)) 0)
    ⊢ (bigSep Finset.univ fun r : Fin 8 => wHeld c m (pe c r) : sProp 𝕄) := by
  rw [← along_rot c (fun j => wHeld c m j), weights_eq]
  unfold wHeld
  rw [bigSep_sep', bigSep_sep']
  iintro ⟨Hw, Ha, Hs⟩
  isplitl [Hw]; · iexact Hw
  isplitl [Ha]
  · iapply (wv_split c) $$ Ha
  · iexact Hs
/-- and what they end with. -/
theorem w_return : (bigSep Finset.univ fun r : Fin 8 => wHeld c m (pe c r) : sProp 𝕄)
    ⊢ iprop((((c : Thread nD τ).loc main_arg1) ↦{fullShare} m ((c : Thread nD τ).loc main_arg1)) ∗ anyAt c wvM
      ∗ bigSep Finset.univ fun j : Fin 8 => semVal ((c : Thread nD τ), .dma (inS j)) 0) := by
  rw [← along_rot c (fun j => wHeld c m j), weights_eq]
  unfold wHeld
  rw [bigSep_sep', bigSep_sep']
  iintro ⟨Hw, Ha, Hs⟩
  isplitl [Hw]; · iexact Hw
  isplitl [Ha]
  · iapply (wv_join c) $$ Ha
  · iexact Hs

/-- The rows as a memref are the buffer. -/
theorem x_whole : (xM.view.loc (c : Thread nD τ) ↦[xM.view.set]{fullShare} m ((c : Thread nD τ).loc main_arg0) : sProp 𝕄)
    = (((c : Thread nD τ).loc main_arg0) ↦{fullShare} m ((c : Thread nD τ).loc main_arg0)) := by
  rw [show xM.view.set = Finset.univ from View.set_whole _]

/-- A device's holdings are what the body starts with, and what it does not touch. -/
theorem start_body : iprop(args m c ∗ scratch c ∗ anyAt c oM ∗ localSems c ∗ firsts c ∗ payToks c ∗ creds c ∗ owesS c (O₀ c))
    ⊢ (iprop(bodyStart c m ∗ spare c) : sProp 𝕄) := by
  unfold args scratch localSems firsts payToks creds bodyStart spare xHeld
  rw [x_whole, star_kinds, along_pe c (fun d => dutyTok ER (barCell d) 0 c), along_pe c (fun d => dutyTok ER (rcvCell d c) 0 0),
    along_succ (fun j => dutyTok ER (sndCell c j) 0 0), along_succ (fun j => atPos ER (kcell (c, some (false, j))) 0 ∅ 0),
    along_sr c (fun j => atPos ER (kcell (c, some (true, j))) 0 ∅ 0)]
  simp only [bigSep_sep']
  iintro ⟨⟨Hx, Hw⟩, ⟨Hxv, Hwv, Hy, Hr⟩, Ho, ⟨Hsx, Hsi⟩, ⟨HaB, ⟨HaS0, HaS⟩, HaR0, HaR⟩, ⟨⟨-, HtB⟩, ⟨-, HtS⟩, -, HtR⟩, ⟨HcB, HcR⟩, HO⟩
  ihave Hy := ((y_split c).trans (Entails.of_eq (along_succ _))) $$ Hy
  icases Hy with ⟨Hy0, Hy⟩
  ihave Hr := ((r_split c).trans (Entails.of_eq (along_pe c _))) $$ Hr
  icases Hr with ⟨Hr0, Hr⟩
  ihave Ho := ((o_split c).trans (Entails.of_eq (along_sr c _))) $$ Ho
  icases Ho with ⟨Ho0, Ho⟩
  ihave Hw := (w_holdings m c) $$ [Hw Hwv Hsi]
  · isplitl [Hw]; · iexact Hw
    isplitl [Hwv] <;> iassumption
  isplitr [HaS0 HaR0 Hr0 Hy0]
  · isplitl [Hx Hxv Hsx]
    · isplitl [Hx]; · iexact Hx
      isplitl [Hxv] <;> iassumption
    isplitl [Hw]; · iexact Hw
    isplitl [HtB Hr]
    · isplitl [HtB]; · iexact HtB
      iexact Hr
    isplitl [Hy]; · iexact Hy
    isplitl [HcB HaB]
    · isplitl [HcB]; · iexact HcB
      iexact HaB
    isplitl [HtS HtR]
    · isplitl [HtS]; · iexact HtS
      iexact HtR
    isplitl [Ho0]; · iexact Ho0
    isplitl [HcR HaR Ho]
    · isplitr [Ho]
      · isplitl [HcR]; · iexact HcR
        iexact HaR
      · iexact Ho
    isplitl [HaS]; · iexact HaS
    iexact HO
  · isplitl [HaS0]; · iexact HaS0
    isplitl [HaR0]; · iexact HaR0
    isplitl [Hr0]; · iexact Hr0
    iexact Hy0

/-! ## What the body leaves -/

variable (K : Dev nD × Kind' → ℕ)

/-- Cells past their rounds close: each of their semaphores is the device's again, at zero. -/
theorem close_family {I : Type} [Fintype I] [DecidableEq I] (k : I → Kind') (R : ℕ) (hR : ∀ i r, R ≤ r → (Rd m).duties (kcell (c, k i)) r = ∅) :
    iprop(Ctx m K ∗ bigSep Finset.univ fun i => atPos ER (kcell (c, k i)) R ∅ 0)
      ⊢ (|={Set.univ}=> bigSep Finset.univ fun i => semVal (kcell (c, k i)) 0 : sProp 𝕄) :=
  (star_persistent (R := Ctx m K) (Ψ := fun i => iprop(|={Set.univ}=> semVal (kcell (c, k i)) 0)) fun i _ =>
    (sep_mono_left (Ctx_inv m K c (k i))).trans
      (Rounds.cell_close ER (Rd m) (Set.mem_univ (K (c, k i))) (fun h => h) (R := R) (hR i))).trans (bigSep_fupd _ _)
/-- A semaphore with no round left is at zero. -/
theorem close_one (k : Kind') (R : ℕ) (hR : ∀ r, R ≤ r → (Rd m).duties (kcell (c, k)) r = ∅) :
    iprop(Ctx m K ∗ atPos ER (kcell (c, k)) R ∅ 0) ⊢ (|={Set.univ}=> semVal (kcell (c, k)) 0 : sProp 𝕄) :=
  (sep_mono_left (Ctx_inv m K c k)).trans (Rounds.cell_close ER (Rd m) (Set.mem_univ (K (c, k))) (fun h => h) (R := R) hR)
/-- A cell with no duty in its first round has none in any. -/
theorem no_duties (k : Kind') (h : dutiesOf c k = ∅) (r : ℕ) (_ : 0 ≤ r) : (Rd m).duties (kcell (c, k)) r = ∅ := by
  rcases Nat.eq_zero_or_pos r with rfl | hr
  · rw [Rd_duties]; exact h
  · exact Rd_later m _ r hr

/-- What a device ends with: its arguments as they were, its scratch, its result computed, every semaphore at zero. -/
def done : sProp 𝕄 :=
  iprop(args m c ∗ scratch c ∗ localSems c ∗ (bigSep Finset.univ fun k : Kind' => semVal (kcell (c, k)) 0)
    ∗ owns (c : Thread nD τ) oM fullShare (outT c m) ∗ owesS c 0)

/-- From what the body ends with, every semaphore is closed at zero. -/
theorem end_body : iprop(Ctx m K ∗ bodyEnd c m ∗ spare c) ⊢ (|={Set.univ}=> done m c : sProp 𝕄) := by
  unfold done args scratch localSems bodyEnd spare xHeld
  rw [x_whole, star_kinds]
  simp only [bigSep_sep']
  iintro ⟨#HC, ⟨⟨Hx, Hxv, Hsx⟩, Hw, HaB, Ho0, ⟨HaR, Hr, Ho⟩, ⟨HaS, Hy⟩, HO⟩, HaS0, HaR0, Hr0, Hy0⟩
  imod (close_one m c K none 1 (Rd_later m _)) $$ [HaB] with HB
  · isplitr; · iexact HC
    iexact HaB
  imod (close_one m c K (some (false, 0)) 0 (no_duties m c _ (show (if (0 : Fin 8) = 0 then ∅ else {0}) = (∅ : Finset (Dev nD)) from if_pos rfl))) $$ [HaS0] with HS0
  · isplitr; · iexact HC
    iexact HaS0
  imod (close_one m c K (some (true, c)) 0 (no_duties m c _ (show (if c = c then ∅ else {0}) = (∅ : Finset (Dev nD)) from if_pos rfl))) $$ [HaR0] with HR0
  · isplitr; · iexact HC
    iexact HaR0
  imod (close_family m c K (fun r : Fin 7 => some (false, r.succ)) 1 (fun _ => Rd_later m _)) $$ [HaS] with HS
  · isplitr; · iexact HC
    iexact HaS
  imod (close_family m c K (fun r : Fin 7 => some (true, sr c r)) 1 (fun _ => Rd_later m _)) $$ [HaR] with HR
  · isplitr; · iexact HC
    iexact HaR
  imodintro
  ihave Hw := (w_return m c) $$ Hw
  icases Hw with ⟨Hw, Hwv, Hsi⟩
  isplitl [Hx Hw]
  · isplitl [Hx] <;> iassumption
  isplitl [Hxv Hwv Hy Hy0 Hr Hr0]
  · isplitl [Hxv]; · iexact Hxv
    isplitl [Hwv]; · iexact Hwv
    isplitl [Hy Hy0]
    · iapply ((Entails.of_eq (along_succ (fun j => yAny c j)).symm).trans (y_join c))
      isplitl [Hy0]; · iexact Hy0
      iexact Hy
    · iapply ((Entails.of_eq (along_sr c (fun j => rAny c j)).symm).trans (r_join c))
      isplitl [Hr0]; · iexact Hr0
      iexact Hr
  isplitl [Hsx Hsi]
  · isplitl [Hsx] <;> iassumption
  isplitl [HB HS0 HS HR0 HR]
  · isplitl [HB]; · iexact HB
    isplitl [HS0 HS]
    · iapply (Entails.of_eq (along_succ (fun j => semVal (sndCell c j) 0)).symm)
      isplitl [HS0]; · iexact HS0
      iexact HS
    · iapply (Entails.of_eq (along_sr c (fun j => semVal (rcvCell c j) 0)).symm)
      isplitl [HR0]; · iexact HR0
      iexact HR
  isplitl [Ho0 Ho]
  · iapply ((Entails.of_eq (along_sr c (fun j => owns (c : Thread nD τ) (oBlk j) fullShare (placed m c j))).symm).trans (o_join c m))
    isplitl [Ho0]; · iexact Ho0
    iexact Ho
  iexact HO

end Start

/-! ## The pipeline's data: one point, at which the body runs -/

/-- The ghost state of device `c`. -/
def ghost (K : Dev nD × Kind' → ℕ) (c : Dev nD) : sProp 𝕄 :=
  iprop((bigSep Finset.univ fun ck : Dev nD × Kind' => cellInv ER (Rd m) (K ck) (kcell ck))
    ∗ (bigSep Finset.univ fun ck : Dev nD × Kind' => reached ER (kcell ck) 0) ∗ localSems c ∗ firsts c ∗ payToks c)
/-- A device's share after the global step. -/
def G' (c : Dev nD) : sProp 𝕄 := iprop(∃ K, ghost m K c)
/-- What a device enters the region with, -/
def start (c : Dev nD) : sProp 𝕄 := iprop(G' m c ∗ creds c ∗ levAts L lv ∗ args m c)
/-- with its scratch what the body starts with, -/
def Φ₀ (c : Dev nD) : sProp 𝕄 := iprop(start m c ∗ scratch c)
/-- and what it ends with. -/
def Φ₁ (c : Dev nD) : sProp 𝕄 :=
  iprop(args m c ∗ scratch c ∗ localSems c ∗ bigSep Finset.univ fun k : Kind' => semVal (kcell (c, k)) 0)

/-- The pipeline's one point: from `Φ₀` to `Φ₁`, the result computed. -/
def dats : (p : Fin 1) → (c : Dev nD) → Dat τ (Elt F) Unit ℕ UU ℕ (cfgs p) c := fun _ c =>
  { A := fun w => (s₀ m ρ).mem ((cfg0.win w).arr.view.loc (c : Thread nD τ))
    after := fun w _ => match w with
      | ⟨0, _⟩ => outT c m
      | ⟨_ + 1, h⟩ => absurd h (Nat.not_lt.2 (Nat.le_add_left _ _))
    Φ := fun t => match t with
      | ⟨0, _⟩ => Φ₀ m c
      | ⟨_ + 1, _⟩ => Φ₁ m c
    q := fun _ => fullShare
    owed := fun t => match t with
      | ⟨0, _⟩ => O₀ c
      | ⟨_ + 1, _⟩ => 0 }

/-- There is one point, -/
theorem cfg0_N : cfg0.N = 1 := N_0
/-- this one, -/
def t₀ : Fin cfg0.N := t0_0

/-- and one window. -/
theorem star_W (Φ : Fin cfg0.W → sProp 𝕄) : bigSep Finset.univ Φ = iprop(Φ (0 : Fin 1)) := bigSep_W0 Φ

/-- The body, from what a device starts with to what it ends with. -/
theorem run_body (K : Dev nD × Kind' → ℕ) (c : Dev nD) :
    iprop(Ctx m K ∗ args m c ∗ scratch c ∗ anyAt c oM ∗ localSems c ∗ firsts c ∗ payToks c ∗ creds c ∗ owesS c (O₀ c))
      ⊢ WP (F := F) c (prog c) (fun _ => done m c) := by
  iintro ⟨#HC, H⟩
  ihave H := (start_body m c) $$ H
  icases H with ⟨Hb, Hs⟩
  unfold WP
  iapply (wp_fupd frame _ Set.univ)
  iapply (wp_wand frame _ Set.univ) $$ [Hb]
  · iapply (body_run c m K)
    isplitr; · iexact HC
    iexact Hb
  iintro %_ He
  iapply (end_body m c K)
  isplitr; · iexact HC
  isplitl [He] <;> iassumption

/-- The body as the pipeline calls it at its one point. -/
theorem point_body (c : Dev nD) :
    iprop(Φ₀ m c ∗ owesS c (O₀ c) ∗ anyAt c oM)
      ⊢ wp frame (wpE (defs₀ (F := F)) 𝒱₀ (c : Thread nD τ) none) Set.univ (cc0_body xM hx wM (Memref.isWhole_whole _) oM (Memref.isWhole_whole _) xvM hxv
          wvM (Memref.isWhole_whole _) yM hy rM hr cc0_scratch4 cc0_scratch5 cc0_scratch6)
          (fun _ => iprop(Φ₁ m c ∗ owesS c 0 ∗ owns (c : Thread nD τ) oM fullShare (outT c m))) := by
  rw [body_loop]
  show _ ⊢ wp frame (wpE (defs₀ (F := F)) 𝒱₀ (c : Thread nD τ) none) Set.univ (.op .deviceId fun c => prog c) _
  rw [wp_deviceId]
  unfold Φ₀ start G' ghost
  iintro ⟨⟨⟨⟨%K, #HI, #HR, Hl, Hf, Ht⟩, Hc, #Hlev, Ha⟩, Hscr⟩, HO, Ho⟩
  iapply (wp_wand frame _ Set.univ) $$ [Hl Hf Ht Hc Ha Hscr HO Ho]
  · iapply (run_body m K c)
    isplitr
    · unfold Ctx; isplitr; · iexact HI
      isplitr; · iexact HR
      iexact Hlev
    isplitl [Ha]; · iexact Ha
    isplitl [Hscr]; · iexact Hscr
    isplitl [Ho]; · iexact Ho
    isplitl [Hl]; · iexact Hl
    isplitl [Hf]; · iexact Hf
    isplitl [Ht]; · iexact Ht
    isplitl [Hc] <;> iassumption
  unfold done Φ₁
  iintro %_ ⟨Ha, Hscr, Hl, Hk, Ho, HO⟩
  isplitl [Ha Hscr Hl Hk]
  · isplitl [Ha]; · iexact Ha
    isplitl [Hscr]; · iexact Hscr
    isplitl [Hl] <;> iassumption
  isplitl [HO] <;> iassumption

set_option maxRecDepth 4000 in
/-- The pipeline's obligation at the body, on device `c`. -/
theorem body_obligation (c : Dev nD) : BodyObligation (dats (F := F) m ρ 0 c) (defs₀ (F := F)) 𝒱₀ () Set.univ := fun t => by
  rw [fin_N0 t, star_W, star_W]
  show iprop(Φ₀ m c ∗ (dats m ρ 0 c).owesAt () t₀.castSucc ∗ (∃ d, owns (c : Thread nD τ) oM fullShare ((dats m ρ 0 c).before (0 : Fin 1) t₀ d)))
    ⊢ wp frame (wpE (defs₀ (F := F)) 𝒱₀ (c : Thread nD τ) none) Set.univ (cc0_body xM hx wM (Memref.isWhole_whole _) oM (Memref.isWhole_whole _) xvM hxv
          wvM (Memref.isWhole_whole _) yM hy rM hr cc0_scratch4 cc0_scratch5 cc0_scratch6)
        (fun _ => iprop(Φ₁ m c ∗ (dats m ρ 0 c).owesAt () t₀.succ ∗ owns (c : Thread nD τ) oM fullShare (outT c m)))
  unfold Dat.owesAt Pipeline.owesWithin
  rw [show (dats m ρ 0 c).owed t₀.castSucc = O₀ c from rfl, show (dats m ρ 0 c).owed t₀.succ = 0 from rfl]
  iintro ⟨HΦ, ⟨%W, -, HO⟩, ⟨%d, Ho⟩⟩
  ihave Ho := (owns_any c oM _) $$ Ho
  iapply (wp_wand frame _ Set.univ) $$ [HΦ HO Ho]
  · iapply (point_body m c)
    isplitl [HΦ]; · iexact HΦ
    isplitl [HO]
    · unfold owesS; iexists W; iexact HO
    iexact Ho
  unfold owesS
  iintro %_ ⟨HΦ, ⟨%W', HO⟩, Ho⟩
  isplitl [HΦ]; · iexact HΦ
  isplitl [HO]
  · iexists W'
    isplitr; · ipureintro; exact fun _ _ => Or.inl trivial
    iexact HO
  iexact Ho

/-! ## The ghost state at launch -/

/-- Every semaphore that others raise, over the mesh. -/
def cells : Finset (GSem nD τ sig) := Finset.univ.map ⟨kcell, kcell_injective⟩
/-- A token per cell and device. -/
def tokOf (x : (Dev nD × Kind') × Dev nD) : GSem nD τ sig × ℕ × Dev nD := (kcell x.1, 0, x.2)
/-- The tokens differ. -/
theorem tokOf_injective : Function.Injective tokOf := fun a b h =>
  Prod.ext (kcell_injective (congrArg Prod.fst h)) (congrArg (fun y : GSem nD τ sig × ℕ × Dev nD => y.2.2) h)
/-- All of them. -/
def toks : Finset (GSem nD τ sig × ℕ × Dev nD) := Finset.univ.map ⟨tokOf, tokOf_injective⟩

/-- The ghost state at launch. -/
def u₀ : UU :=
  (initOf (Pipeline.cells cfgs cellOf_inj) (Pipeline.launchToks cfgs cellOf_inj), (Emb.inl : Emb UB (UB × Counters)) (initOf cells toks))

/-- What the launch's ghost state deals device `c`. -/
def G (c : Dev nD) : sProp 𝕄 :=
  iprop((bigSep Finset.univ fun k : Kind' => roundState ER (Rd m) (kcell (c, k)) 0) ∗ firsts c
    ∗ (bigSep Finset.univ fun k : Kind' => reached ER (kcell (c, k)) 0)
    ∗ bigSep Finset.univ fun k : Kind' => bigSep Finset.univ fun d : Dev nD => dutyTok ER (kcell (c, k)) 0 d)

/-- It gives every device its cells' first rounds and tokens. -/
theorem fund : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : Kind' => Φ (kcell (c, k)) := by
    unfold cells; rw [bigSep_map, bigSep_univ_prod]; rfl
  have hT : bigSep toks (fun x => (dutyTok ER x.1 x.2.1 x.2.2 : sProp 𝕄))
      = bigSep Finset.univ fun c : Dev nD => bigSep Finset.univ fun k : Kind' => bigSep Finset.univ fun d : Dev nD => dutyTok ER (kcell (c, k)) 0 d := by
    unfold toks; rw [bigSep_map, bigSep_univ_prod, bigSep_univ_prod]; rfl
  iintro HX
  imod (Rounds.fund ER (Rd m) cells toks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G firsts; simp only [bigSep_sep']
  isplitl [Hst']; · iexact Hst'
  isplitl [Hat']; · iexact Hat'
  isplitl [Hr']; · iexact Hr'
  iexact Htok'

/-- The tokens go from the devices whose cells they are of to the devices that pay. -/
theorem toks_dealt : (bigSep Finset.univ fun c : Dev nD => bigSep Finset.univ fun k : Kind' => bigSep Finset.univ fun d : Dev nD => dutyTok ER (kcell (c, k)) 0 d : sProp 𝕄)
    ⊢ bigSep Finset.univ fun c : Dev nD => payToks c := by
  have hk (c : Dev nD) : (bigSep Finset.univ fun k : Kind' => bigSep Finset.univ fun d : Dev nD => dutyTok ER (kcell (c, k)) 0 d : sProp 𝕄)
      ⊢ iprop((bigSep Finset.univ fun d : Dev nD => dutyTok ER (barCell c) 0 d) ∗ (bigSep Finset.univ fun j : Fin 8 => dutyTok ER (sndCell c j) 0 0)
          ∗ bigSep Finset.univ fun j : Dev nD => dutyTok ER (rcvCell c j) 0 0) := by
    rw [star_kinds]
    exact sep_mono_right (BI.sep_mono (bigSep_mono fun j _ => bigSep_elim (Finset.mem_univ 0)) (bigSep_mono fun j _ => bigSep_elim (Finset.mem_univ 0)))
  refine (bigSep_mono fun c _ => hk c).trans ?_
  unfold payToks
  rw [bigSep_sep', bigSep_sep', bigSep_sep', bigSep_sep',
    BI.bigSep_univ_comm (fun (c d : Dev nD) => (dutyTok ER (barCell c) 0 d : sProp 𝕄)),
    BI.bigSep_univ_comm (fun (c j : Dev nD) => (dutyTok ER (rcvCell c j) 0 0 : sProp 𝕄))]
  exact (BIBase.Entails.rfl : (_ : sProp 𝕄) ⊢ _)

/-- A device's cells' invariants are made, its semaphores going into them. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Kind' => reached ER (kcell (c, k)) 0) ∗ (localSems c ∗ firsts c)
          ∗ bigSep Finset.univ fun k : Kind' => bigSep Finset.univ fun d : Dev nD => dutyTok ER (kcell (c, k)) 0 d) := by
  unfold G
  iintro ⟨Hos, Hus, Hst, Hat, Hr, Htok⟩
  ihave Hv := (sems_split (F := F) c) $$ [Hos Hus]
  · isplitl [Hos] <;> iassumption
  icases Hv with ⟨Hl, Hv⟩
  imod (show iprop((bigSep Finset.univ fun k : Kind' => semVal (kcell (c, k)) 0) ∗ bigSep Finset.univ fun k : Kind' => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitr [Htok]
  · isplitl [Hl] <;> iassumption
  iexact Htok

/-- The invariants are made known to all, and the tokens dealt. -/
theorem regroup :
    (bigSep Finset.univ fun c : Dev nD => iprop((bigSep Finset.univ fun k => iprop(∃ κ : ℕ, cellInv ER (Rd m) κ (kcell (c, k))))
          ∗ (bigSep Finset.univ fun k : Kind' => reached ER (kcell (c, k)) 0) ∗ (localSems c ∗ firsts c)
          ∗ bigSep Finset.univ fun k : Kind' => bigSep Finset.univ fun d : Dev nD => dutyTok ER (kcell (c, k)) 0 d) : sProp 𝕄)
      ⊢ bigSep Finset.univ (G' m) := by
  rw [bigSep_sep', bigSep_sep', bigSep_sep', ← bigSep_univ_prod (fun ck : Dev nD × Kind' => iprop(∃ κ : ℕ, cellInv ER (Rd m) κ (kcell ck))),
    ← bigSep_univ_prod (fun ck : Dev nD × Kind' => (reached ER (kcell ck) 0 : sProp 𝕄))]
  iintro ⟨HI, #HR, Hl, Htok⟩
  ihave HK := (BI.bigSep_exists_pi Finset.univ (fun (ck : Dev nD × Kind') (κ : ℕ) => (cellInv ER (Rd m) κ (kcell ck) : sProp 𝕄))) $$ HI
  icases HK with ⟨%K, #HI⟩
  ihave Htk := (toks_dealt (F := F)) $$ Htok
  iapply (star_persistent (R := iprop((bigSep Finset.univ fun ck : Dev nD × Kind' => cellInv ER (Rd m) (K ck) (kcell ck))
      ∗ bigSep Finset.univ fun ck : Dev nD × Kind' => reached ER (kcell ck) 0)) (Φ := fun c => iprop((localSems c ∗ firsts c) ∗ payToks c)) fun c _ => by
    unfold G' ghost
    iintro ⟨⟨#HI, #HR⟩, ⟨Hl, Hf⟩, Ht⟩
    iexists K
    isplitr; · iexact HI
    isplitr; · iexact HR
    isplitl [Hl]; · iexact Hl
    isplitl [Hf] <;> iassumption)
  isplitr
  · isplitr; · iexact HI
    iexact HR
  · iapply (Entails.of_eq (bigSep_sep' Finset.univ (fun c : Dev nD => iprop(localSems c ∗ firsts c)) payToks).symm)
    isplitl [Hl]; · iexact Hl
    iexact Htk

/-- The global step at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Two blocks' semaphores are one only if device and sender are. -/
theorem rcv_eq_iff {c d s s' : Dev nD} : rcvCell c s = rcvCell d s' ↔ c = d ∧ s = s' :=
  ⟨fun h => by
      have := kcell_injective (a₁ := (c, some (true, s))) (a₂ := (d, some (true, s'))) h
      exact ⟨congrArg Prod.fst this, congrArg Prod.snd (Option.some.inj (congrArg Prod.snd this))⟩,
    fun h => by rw [h.1, h.2]⟩
/-- Two barriers are one only if the devices are. -/
theorem bar_eq_iff {c d : Dev nD} : barCell c = barCell d ↔ c = d :=
  ⟨fun h => congrArg (fun g : GSem nD τ sig => g.1.1) h, fun h => h ▸ rfl⟩
/-- A block's semaphore is no barrier. -/
theorem rcv_ne_bar (c d s : Dev nD) : rcvCell c s ≠ barCell d := fun h => by
  have := congrArg Prod.snd h; cases this

/-- What sends owe a block's semaphore, -/
theorem owR_rcv (d c s : Dev nD) (l : List (Fin 7)) :
    owR d l (rcvCell c s) () = (l.map fun r : Fin 7 => if c = pe d r ∧ s = d then 1 else 0).sum * N := by
  induction l with
  | nil => exact (Nat.zero_mul N).symm
  | cons r l ih =>
    rw [show owR d (r :: l) = owR d l + tallyAt (rcvCell (pe d r) d) () N from rfl, Pi.add_apply, Finsupp.add_apply, ih, tallyAt_apply,
      List.map_cons, List.sum_cons, Nat.add_mul, Nat.add_comm]
    congr 1
    by_cases h : c = pe d r ∧ s = d
    · rw [if_pos ⟨rcv_eq_iff.mpr h, rfl⟩, if_pos h, Nat.one_mul]
    · rw [if_neg fun h' => h (rcv_eq_iff.mp h'.1), if_neg h, Nat.zero_mul]
/-- and a barrier: nothing. -/
theorem owR_bar (d c : Dev nD) (l : List (Fin 7)) : owR d l (barCell c) () = 0 := by
  induction l with
  | nil => rfl
  | cons r l ih =>
    rw [show owR d (r :: l) = owR d l + tallyAt (rcvCell (pe d r) d) () N from rfl, Pi.add_apply, Finsupp.add_apply, ih, tallyAt_apply,
      if_neg fun h => rcv_ne_bar _ _ _ h.1.symm]
/-- With signals: the same to a block's semaphore, -/
theorem owB_rcv (d c s : Dev nD) (l : List (Fin 7)) : owB d l (rcvCell c s) () = owR d [0, 1, 2, 3, 4, 5, 6] (rcvCell c s) () := by
  induction l with
  | nil => rfl
  | cons r l ih =>
    rw [show owB d (r :: l) = owB d l + tallyAt (barCell (pe d r)) () 1 from rfl, Pi.add_apply, Finsupp.add_apply, ih, tallyAt_apply,
      if_neg fun h => rcv_ne_bar _ _ _ h.1, Nat.add_zero]
/-- and a unit each to the barriers. -/
theorem owB_bar (d c : Dev nD) (l : List (Fin 7)) : owB d l (barCell c) () = (l.map fun r : Fin 7 => if c = pe d r then 1 else 0).sum := by
  induction l with
  | nil => exact owR_bar d c _
  | cons r l ih =>
    rw [show owB d (r :: l) = owB d l + tallyAt (barCell (pe d r)) () 1 from rfl, Pi.add_apply, Finsupp.add_apply, ih, tallyAt_apply,
      List.map_cons, List.sum_cons, Nat.add_comm]
    congr 1
    by_cases h : c = pe d r
    · rw [if_pos ⟨bar_eq_iff.mpr h, rfl⟩, if_pos h]
    · rw [if_neg fun h' => h (bar_eq_iff.mp h'.1), if_neg h]

/-- Seven devices signal a device; one sends it the block of each place but its own. -/
theorem count_bar (c : Dev nD) : ∑ d : Dev nD, (([0, 1, 2, 3, 4, 5, 6] : List (Fin 7)).map fun r : Fin 7 => if c = pe d r then 1 else 0).sum = 7 := by
  revert c; decide +kernel
/-- One device sends the block from `s` to `c`. -/
theorem count_rcv (c s : Dev nD) (h : s ≠ c) :
    ∑ d : Dev nD, (([0, 1, 2, 3, 4, 5, 6] : List (Fin 7)).map fun r : Fin 7 => if c = pe d r ∧ s = d then 1 else 0).sum = 1 := by
  revert c s; decide +kernel

/-- At launch a barrier is due seven units, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact (Finset.sum_congr rfl fun d _ => owB_bar d c [0, 1, 2, 3, 4, 5, 6]).trans (count_bar c)
/-- and a block's semaphore one block. -/
theorem launch_rcv (c s : Dev nD) (h : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same]
  exact (Finset.sum_congr rfl fun d _ => (owB_rcv d c s [0, 1, 2, 3, 4, 5, 6]).trans (owR_rcv d c s _)).trans
    (by rw [← Finset.sum_mul, count_rcv c s h, Nat.one_mul])

/-- Blocks from different devices are on different semaphores. -/
theorem rcvS_injective : Function.Injective rcvS := fun a b h => by
  have h' : (some (true, a) : Kind') = some (true, b) := csem_injective (congrArg SemLoc.dma h)
  exact congrArg Prod.snd (Option.some.inj h')
/-- The semaphores of the blocks a device receives. -/
def rcvAt (c : Dev nD) : Fin 7 ↪ SemLoc sig :=
  ⟨fun r => .dma (rcvS (sr c r)), fun a b h => sr_inj c (rcvS_injective (SemLoc.dma.inj h))⟩

/-- The credit at launch is what a device's waits ask for. -/
theorem creds_intro (c : Dev nD) : (Pipeline.launchCred O₀ c : sProp 𝕄) ⊢ creds c := by
  unfold Pipeline.launchCred creds
  rw [bigSep_univ_at _ (SemLoc.reg barS), launch_bar]
  have h : (Finset.univ : Finset (Fin 7)).map (rcvAt c) ⊆ Finset.univ.erase (SemLoc.reg barS) := fun x hx => by
    obtain ⟨r, -, rfl⟩ := Finset.mem_map.mp hx
    exact Finset.mem_erase.mpr ⟨fun h => (by cases h), Finset.mem_univ _⟩
  refine sep_mono_right ((bigSep_subset h).trans ?_)
  rw [bigSep_map]
  exact Entails.of_eq (bigSep_congr fun (r : Fin 7) _ => congrArg cred (launch_rcv c (sr c r) (sr_ne c r)))

/-! ## The run -/

/-- The result is held whole. -/
theorem share_eq (c : Dev nD) (w : Fin cfg0.W) : (dats m ρ 0 c).share w = fullShare := by unfold Dat.share; split <;> rfl

/-- What the launch gives a device is what it enters with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start args
  isplitl
  · isplitl [HG]; · iexact HG
    isplitl [Hc]; · iexact Hc
    isplitl [Hlev]; · iexact Hlev
    iexact Ha
  · iempintro

/-- The invariant holds at the region's start, -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

/-- and at its end gives semaphores and buffers back. -/
theorem leave (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, ← scratch_eq, ownSems0_eq, unscopedSems0_eq]
  unfold Φ₁ localSems
  rw [star_kinds]
  iintro ⟨Ha, Hscr, ⟨Hx, Hi⟩, HB, HS, HR⟩
  isplitl [Ha HB]
  · isplitl [HB]; · iexact HB
    iexact Ha
  isplitr [Hscr]
  · isplitl [Hx]; · iexact Hx
    isplitl [Hi]; · iexact Hi
    isplitl [HS]; · iexact HS
    iexact HR
  · iexact Hscr

/-- The pipeline's own waits are below all that is owed. -/
theorem waits (c : Dev nD) : (levAts L lv : sProp 𝕄) ⊢ Pipeline.cellsWaits cfgs (dats m ρ) () 0 c :=
  Pipeline.cellsWaits_intro cfgs (dats m ρ) () 0 c fun w s t => by
    have hlow (c' : Dev nD) : lv ((c' : Thread nD τ), .dma ((cfg0.win w).sem s)) () = 0 := by
      fin_cases w; fin_cases s; rfl
    rcases t with ⟨_ | _, ht⟩
    · exact mayWait_low c _ hlow [0, 1, 2, 3, 4, 5, 6]
    · show _ ⊢ MayWait (c : Thread nD τ) (.dma ((cfg0.win w).sem s)) () 0
      rw [MayWait_zero]; iintro -; iempintro

/-- What a final memory holds: the result computed, both arguments as they were. -/
def Final (c : Dev nD) (s : MemSt nD τ sig (Elt F)) : Prop :=
  s.mem ((c : Thread nD τ).loc main_v1) = outT c m
  ∧ s.mem ((c : Thread nD τ).loc main_arg0) = m ((c : Thread nD τ).loc main_arg0)
  ∧ s.mem ((c : Thread nD τ).loc main_arg1) = m ((c : Thread nD τ).loc main_arg1)

/-- The result's array after the one write-back. -/
theorem final_v1 (c : Dev nD) : (dats m ρ 0 c).arrAt (0 : Fin 1) cfg0.N = outT c m := by
  refine (dats m ρ 0 c).arrAt_eq_of_after_last (0 : Fin 1) t₀ (by decide +kernel) _ fun j => ?_
  blk_simp
  rfl

/-- A memory agrees with the arguments held at its contents. -/
theorem args_read (c : Dev nD) (s' : Phys nD τ sig (Elt F)) :
    iprop(args m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold args
  iintro ⟨⟨H0, H1⟩, HSI⟩
  icombine HSI H0 gives %h0
  icombine HSI H1 gives %h1
  isplitr [HSI]
  · ipureintro
    exact ⟨funext fun i => h0 i (Finset.mem_univ i), funext fun i => h1 i (Finset.mem_univ i)⟩
  · iexact HSI

set_option maxRecDepth 8000 in
/-- On the mesh of eight devices, from any memory with every semaphore at zero, every weakly fair execution ends, and ends
    with each device's result computed, its arguments as they were and every semaphore at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HE := (show BI.own ((embR : Emb (UB × Counters) (MT nD τ sig Unit (Elt F) ℕ UU ℕ)) ((Emb.inl : Emb UB (UB × Counters)) (initOf cells toks)))
        ⊢ (BI.own (ER (initOf cells toks)) : sProp 𝕄) from .rfl) $$ HX
      imod (fund m) $$ HE with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      iintro ⟨⟨Hu, Ha⟩, -, HSI⟩
      imod (Pipeline.unscopedSems0_read (X := unscopedSems0 c) (c := c) fupd_intro s') $$ [Hu HSI] with ⟨%hs, HSI⟩
      · isplitl [Hu] <;> iassumption
      ihave H := (args_read m c s') $$ [Ha HSI]
      · isplitl [Ha] <;> iassumption
      icases H with ⟨%ha, HSI⟩
      imodintro
      isplitr
      · ipureintro; exact ⟨hs, ha⟩
      · iexact HSI)
    (hQ := fun _ h hs => ⟨fun c => ⟨((h c).1 0).trans (final_v1 m ρ c), (h c).2.2.2⟩, sem_eq_zero hs fun c => (h c).2.2.1⟩)

end Cert.KernelIdeal
-- ==== Proof.KernelIdeal.Value.lean ====
/- The result at the ideal instance: each device's array is its block of columns of one product over the whole arrays. -/
module

public import proofs.«01_k».proof.Proof.KernelIdeal.Launch
public import proofs.«01_k».proof.Proof.Gen.ReferenceIdeal
public import Idealize.ShloMosaic.Lib.Pointwise
public import Idealize.ShloMosaic.Lib.Layout

@[expose] public section

noncomputable section

namespace Cert.KernelIdeal

open Idealize.ShloMosaic Idealize.ShloMosaic.TcCoe

variable (m : (ℓ : Loc nD τ sig) → Buf (Elt Ideal) ℓ)

/-- Row block `s` of device `c`'s result at the ideal instance: device `s`'s rows against device `c`'s columns. -/
theorem placed_apply (c s : Dev nD) (i : S128x128.Idx) :
    placed m c s i = ∑ k : Fin 1024, (xOf m s (ix2 (i 0) k) * wOf m s c (ix2 k (i 1)) : EReal) := by
  unfold placed
  split
  · rename_i h; subst h
    unfold dotOf
    pointwise
  · unfold placeOf sent sendOf dotOf
    pointwise

/-- Row `r`, column `k` of device `s`'s activations. -/
theorem xOf_apply (s : Dev nD) (i : S128x1024.Idx) : xOf m s i = m ((s : Thread nD τ).loc main_arg0) i := rfl

/-- Row `k`, column `l` of the `j`-th slab of weights is column `128 j + l` of the whole. -/
theorem wOf_apply (s : Dev nD) (j : Fin 8) (k : Fin 1024) (l : Fin 128) :
    wOf m s j (ix2 k l) = m ((s : Thread nD τ).loc main_arg1) (ix2 k ⟨128 * j.val + l.val, by omega⟩) := by
  show m ((s : Thread nD τ).loc main_arg1) ((wCol j).view.emb (ix2 k l)) = _
  congr 1
  funext a
  apply Fin.ext
  fin_cases a
  · show 0 + 1 * k.val = k.val; omega
  · show 128 * j.val + 1 * l.val = 128 * j.val + l.val; omega

/-- Each device's result is its block of columns of the whole product, the rows of the left factor lying along the
    devices and the right factor being on each. -/
theorem outT_eq (X W : FVec Ideal Cert.ReferenceIdeal.S1024x1024 .f32)
    (hx : ∀ c : Dev nD, m ((c : Thread nD τ).loc main_arg0) = Layout.block ⟨2, ![128, 1024]⟩ ⟨2, ![1024, 1024]⟩ 0 8 c X)
    (hw : ∀ c : Dev nD, m ((c : Thread nD τ).loc main_arg1) = W) (c : Dev nD) :
    outT c m = Layout.block ⟨2, ![1024, 128]⟩ ⟨2, ![1024, 1024]⟩ 1 8 c
      (Host.dotGeneral (F := Ideal) Cert.ReferenceIdeal.dot_S1024x1024_S1024x1024_S1024x1024_1_0_0_1_n_n none X W) := by
  funext i
  rw [Layout.block_apply]
  unfold outT
  rw [placed_apply]
  pointwise
  refine Finset.sum_congr rfl fun k _ => ?_
  rw [xOf_apply, hx, Layout.block_apply]
  refine congrArg₂ (fun x w : EReal => x * w) (congrArg X ?_) ((wOf_apply m _ c k (i 1)).trans ((congrFun (hw _) _).trans (congrArg W ?_)))
  · funext a
    apply Fin.ext
    fin_cases a
    · exact (congrArg (· + _) (Nat.mul_comm _ _)).trans (Nat.div_add_mod _ _)
    · rfl
  · funext a
    apply Fin.ext
    fin_cases a
    · rfl
    · exact congrArg (· + _) (Nat.mul_comm _ _)

end Cert.KernelIdeal

end
-- ==== Proof.lean ====
/- The claim: the kernel's frame at the machine's words and at the ideal instance, the reference's, and that the two
   compute one array at the ideal instance. -/
module

public import proofs.«01_k».proof.Defs
public import proofs.«01_k».proof.Proof.Kernel.Launch
public import proofs.«01_k».proof.Proof.KernelIdeal.Launch
public import proofs.«01_k».proof.Proof.KernelIdeal.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel at the machine's words ends, its arguments unchanged and every semaphore at zero. -/
theorem frame_kernel : Cert.quiescent_Kernel := fun m g _ =>
  θ_run_mono (Cert.Kernel.run_main m g) fun _ h => ⟨fun c => (h.1 c).2, h.2⟩

/-- So does the kernel at the ideal instance, -/
theorem frame_kernelIdeal : Cert.quiescent_KernelIdeal := fun m g _ =>
  θ_run_mono (Cert.KernelIdeal.run_main m g) fun _ h => ⟨fun c => (h.1 c).2, h.2⟩

/-- and the reference, which has no semaphore. -/
theorem frame_referenceIdeal : Cert.quiescent_ReferenceIdeal := fun m g _ =>
  θ_run_mono (Cert.ReferenceIdeal.Value.run m g) fun r h => ⟨fun c => (h c).2, sem_eq_zero_of_no_sems (by decide) r.2⟩

/-- Each device's result is its block of columns of the reference's. -/
theorem value : Cert.algebraic_KernelIdeal_ReferenceIdeal := fun m g m' g' _ hagree =>
  ⟨Host.dotGeneral (F := Ideal) Cert.ReferenceIdeal.dot_S1024x1024_S1024x1024_S1024x1024_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    θ_run_mono (Cert.KernelIdeal.run_main m g) fun _ h c =>
      ⟨(h.1 c).1.trans (Cert.KernelIdeal.outT_eq m _ _ (fun c => (hagree c).1) (fun c => (hagree c).2) c), (h.1 c).2⟩,
    θ_run_mono (Cert.ReferenceIdeal.Value.run m' g') fun _ h => h 0⟩

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
